-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_finite_settled [hPre_finite_settled : Cert.Pre_finite_settled.Facts] (m : (ℓ : Loc Cert.KernelIdeal.nD Cert.KernelIdeal.τ Cert.KernelIdeal.sig) → Buf (Elt Ideal) ℓ) : Prop :=
  ∀ c : Dev Cert.KernelIdeal.nD,
    (Cert.Pre_finite_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_ReferenceIdeal_finite_settled [hPre_finite_settled : Cert.Pre_finite_settled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_settled.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_settled [hKernelIdeal : Cert.KernelIdeal.Facts] [hPre_finite_settled : Cert.Pre_finite_settled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_settled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_settled [hReferenceIdeal : Cert.ReferenceIdeal.Facts] [hPre_finite_settled : Cert.Pre_finite_settled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_settled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "eps_sq" .f32 0x24E69595#32 ((126765058482001 / 1267650600228229401496703205376 : ℝ) : EReal)

def algebraic_KernelIdeal_ReferenceIdeal_on_settled_pre_finite [hKernelIdeal : Cert.KernelIdeal.Facts] [hReferenceIdeal : Cert.ReferenceIdeal.Facts] [hPre_finite : Cert.Pre_finite.Facts] [hOn_settled : Cert.On_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨1, ![16384]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.KernelIdeal.nD Cert.KernelIdeal.τ).loc Cert.KernelIdeal.main_v1) i = v0 c i)
          ∧ (∀ i : (⟨1, ![16384]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.KernelIdeal.nD Cert.KernelIdeal.τ).loc Cert.KernelIdeal.main_v2) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨1, ![16384]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 i = 1#1 → r.2.mem ((c.tc : Thread Cert.ReferenceIdeal.nD Cert.ReferenceIdeal.τ).loc Cert.ReferenceIdeal.main_v27) i = v0 c i)
          ∧ (∀ i : (⟨1, ![16384]⟩ : Shape).Idx, (Cert.On_settled.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 i = 1#1 → r.2.mem ((c.tc : Thread Cert.ReferenceIdeal.nD Cert.ReferenceIdeal.τ).loc Cert.ReferenceIdeal.main_v14) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def algebraic_KernelIdeal_ReferenceIdeal_pre_finite_settled [hKernelIdeal : Cert.KernelIdeal.Facts] [hReferenceIdeal : Cert.ReferenceIdeal.Facts] [hPre_finite_settled : Cert.Pre_finite_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_settled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts) (hPre_finite_settled : Cert.Pre_finite_settled.Facts) (hOn_settled : Cert.On_settled.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_KernelIdeal_pre_finite_settled (hKernelIdeal := hKernelIdeal) (hPre_finite_settled := hPre_finite_settled)
    ∧ quiescent_ReferenceIdeal (hReferenceIdeal := hReferenceIdeal)
    ∧ quiescent_ReferenceIdeal_pre_finite (hReferenceIdeal := hReferenceIdeal) (hPre_finite := hPre_finite)
    ∧ quiescent_ReferenceIdeal_pre_finite_settled (hReferenceIdeal := hReferenceIdeal) (hPre_finite_settled := hPre_finite_settled)
    ∧ preserves_Kernel_KernelIdeal
    ∧ algebraic_KernelIdeal_ReferenceIdeal_on_settled_pre_finite (hKernelIdeal := hKernelIdeal) (hReferenceIdeal := hReferenceIdeal) (hPre_finite := hPre_finite) (hOn_settled := hOn_settled)
    ∧ algebraic_KernelIdeal_ReferenceIdeal_pre_finite_settled (hKernelIdeal := hKernelIdeal) (hReferenceIdeal := hReferenceIdeal) (hPre_finite_settled := hPre_finite_settled)
-- ==== On_settled.lean ====
abbrev S16384x64 : Shape := ⟨2, ![16384, 64]⟩
abbrev S1024x64 : Shape := ⟨2, ![1024, 64]⟩
abbrev S_ : Shape := ⟨0, ![]⟩
abbrev S1024 : Shape := ⟨1, ![1024]⟩
abbrev S16384 : Shape := ⟨1, ![16384]⟩
abbrev S16384x1 : Shape := ⟨2, ![16384, 1]⟩
abbrev S64x1024 : Shape := ⟨2, ![64, 1024]⟩
abbrev S16384x1024 : Shape := ⟨2, ![16384, 1024]⟩
abbrev S1x1024 : Shape := ⟨2, ![1, 1024]⟩

class Facts : Prop where
  reducesTo_S1024x64_S1024_d1 : S1024x64.ReducesTo [1] S1024
  h_S_ : 0 < S_.numel
  reducesTo_S16384x64_S16384_d1 : S16384x64.ReducesTo [1] S16384
  bcast_S16384_S16384x1_0 : S16384.BroadcastsInDim S16384x1 (![0] : Fin 1 → Fin S16384x1.rank)
  transposes_S1024x64_S64x1024_1_0 : S1024x64.Transposes [1, 0] S64x1024
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  bcast_S_S16384 : S_.BroadcastsInDim S16384 (![] : Fin 0 → Fin S16384.rank)
  dot_S16384x64_S64x1024_S16384x1024_1_0_0_1_n_n_wf : DotDims.WF S16384x64 S64x1024 S16384x1024 [1] [0] [0] [1] [] []

variable [Facts]

def dot_S16384x64_S64x1024_S16384x1024_1_0_0_1_n_n : DotDims S16384x64 S64x1024 S16384x1024 where
  lhsContracting := [1]
  rhsContracting := [0]
  lhsNonContracting := [0]
  rhsNonContracting := [1]
  lhsBatch := []
  rhsBatch := []
  wf := dot_S16384x64_S64x1024_S16384x1024_1_0_0_1_n_n_wf
def fn_where {F : FTy → Type} [FloatOps F] (arg0 : IVec S16384x1024 1) (arg1 : FVec F S1x1024 .f32) (arg2 : FVec F S_ .f32) : FVec F S16384x1024 .f32 :=
  let v0 : FVec F S_ .f32 := id arg2
  let v1 : FVec F S16384x1024 .f32 := broadcastInDim S16384x1024 ![0, 1] bcast_S1x1024_S16384x1024_0_1 arg1
  let v2 : FVec F S16384x1024 .f32 := broadcastInDim S16384x1024 ![] bcast_S_S16384x1024 v0
  let v3 : FVec F S16384x1024 .f32 := select arg0 v1 v2
  v3

def fn_part1 {F : FTy → Type} [FloatOps F] (main_v1 : FVec F S1024 .f32) (main_v17 : IVec S16384x1024 1) (main_v18 : FVec F S1x1024 .f32) (main_cst_3 : FVec F S_ .f32) : IVec S16384 1 × IVec S16384 1 :=
  let main_v19 : FVec F S16384x1024 .f32 := fn_where (F := F) main_v17 main_v18 main_cst_3
  let main_cst_4 : FVec F S_ .f32 := constant S_ .f32 0xFF800000#32
  let main_v20 : FVec F S16384 .f32 := (fun x v => Host.reduce FloatOps.maximumf x v reducesTo_S16384x1024_S16384_d1 h_S_) main_v19 main_cst_4
  let main_v21 : FVec F S1x1024 .f32 := broadcastInDim S1x1024 ![1] bcast_S1024_S1x1024_1 main_v1
  let main_cst_5 : FVec F S_ .f32 := constant S_ .f32 0x7F800000#32
  let main_v22 : FVec F S16384x1024 .f32 := fn_where (F := F) main_v17 main_v21 main_cst_5
  let main_cst_6 : FVec F S_ .f32 := constant S_ .f32 0x7F800000#32
  let main_v23 : FVec F S16384 .f32 := (fun x v => Host.reduce FloatOps.minimumf x v reducesTo_S16384x1024_S16384_d1 h_S_) main_v22 main_cst_6
  let main_v24 : IVec S16384 1 := cmpf .oeq main_v20 main_v23
  let main_c : IVec S_ 1 := constantI S_ 1 1#1
  let main_v25 : IVec S16384 1 := broadcastInDim S16384 ![] bcast_S_S16384 main_c
  (main_v24, main_v25)

def fn {F : FTy → Type} [FloatOps F] (main_arg0 : FVec F S16384x64 .f32) (main_arg1 : FVec F S1024x64 .f32) : IVec S16384 1 × IVec S16384 1 :=
  let main_v0 : FVec F S1024x64 .f32 := mulf main_arg1 main_arg1
  let main_cst : FVec F S_ .f32 := constant S_ .f32 0x00000000#32
  let main_v1 : FVec F S1024 .f32 := (fun x v => Host.reduceAdd x v reducesTo_S1024x64_S1024_d1 h_S_) main_v0 main_cst
  let main_v2 : FVec F S16384x64 .f32 := mulf main_arg0 main_arg0
  let main_cst_0 : FVec F S_ .f32 := constant S_ .f32 0x00000000#32
  let main_v3 : FVec F S16384 .f32 := (fun x v => Host.reduceAdd x v reducesTo_S16384x64_S16384_d1 h_S_) main_v2 main_cst_0
  let main_v4 : FVec F S16384x1 .f32 := broadcastInDim S16384x1 ![0] bcast_S16384_S16384x1_0 main_v3
  let main_v5 : FVec F S64x1024 .f32 := (transpose S64x1024 [1, 0] · transposes_S1024x64_S64x1024_1_0) main_arg1
  let main_v6 : FVec F S16384x1024 .f32 := (fun l r => Host.dotGeneral dot_S16384x64_S64x1024_S16384x1024_1_0_0_1_n_n none l r) main_arg0 main_v5
  let main_cst_1 : FVec F S_ .f32 := constant S_ .f32 0x40000000#32
  let main_v7 : FVec F S16384x1024 .f32 := broadcastInDim S16384x1024 ![] bcast_S_S16384x1024 main_cst_1
  let main_v8 : FVec F S16384x1024 .f32 := mulf main_v7 main_v6
  let main_v9 : FVec F S16384x1024 .f32 := broadcastInDim S16384x1024 ![0, 1] bcast_S16384x1_S16384x1024_0_1 main_v4
  let main_v10 : FVec F S16384x1024 .f32 := subf main_v9 main_v8
  let main_v11 : FVec F S1x1024 .f32 := broadcastInDim S1x1024 ![1] bcast_S1024_S1x1024_1 main_v1
  let main_v12 : FVec F S16384x1024 .f32 := broadcastInDim S16384x1024 ![0, 1] bcast_S1x1024_S16384x1024_0_1 main_v11
  let main_v13 : FVec F S16384x1024 .f32 := addf main_v10 main_v12
  let main_cst_2 : FVec F S_ .f32 := constant S_ .f32 0x7F800000#32
  let main_v14 : FVec F S16384 .f32 := (fun x v => Host.reduce FloatOps.minimumf x v reducesTo_S16384x1024_S16384_d1 h_S_) main_v13 main_cst_2
  let main_v15 : FVec F S16384x1 .f32 := broadcastInDim S16384x1 ![0] bcast_S16384_S16384x1_0 main_v14
  let main_v16 : FVec F S16384x1024 .f32 := broadcastInDim S16384x1024 ![0, 1] bcast_S16384x1_S16384x1024_0_1 main_v15
  let main_v17 : IVec S16384x1024 1 := cmpf .oeq main_v13 main_v16
  let main_v18 : FVec F S1x1024 .f32 := broadcastInDim S1x1024 ![1] bcast_S1024_S1x1024_1 main_v1
  let main_cst_3 : FVec F S_ .f32 := constant S_ .f32 0xFF800000#32
  fn_part1 (F := F) main_v1 main_v17 main_v18 main_cst_3
-- ==== Pre_finite.lean ====
abbrev S16384x64 : Shape := ⟨2, ![16384, 64]⟩
abbrev S1024x64 : Shape := ⟨2, ![1024, 64]⟩
abbrev S_ : Shape := ⟨0, ![]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16384x64 .f32) (main_arg1 : FVec F S1024x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Pre_finite_settled.lean ====
abbrev S16384x64 : Shape := ⟨2, ![16384, 64]⟩
abbrev S1024x64 : Shape := ⟨2, ![1024, 64]⟩
abbrev S_ : Shape := ⟨0, ![]⟩
abbrev S1024 : Shape := ⟨1, ![1024]⟩
abbrev S16384 : Shape := ⟨1, ![16384]⟩
abbrev S16384x1 : Shape := ⟨2, ![16384, 1]⟩
abbrev S64x1024 : Shape := ⟨2, ![64, 1024]⟩
abbrev S16384x1024 : Shape := ⟨2, ![16384, 1024]⟩
abbrev S1x1024 : Shape := ⟨2, ![1, 1024]⟩

class Facts : Prop where
  bcast_S_S16384x64 : S_.BroadcastsInDim S16384x64 (![] : Fin 0 → Fin S16384x64.rank)
  reducesTo_S16384x64_S_d0_1 : S16384x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_
  reducesTo_S1024x64_S1024_d1 : S1024x64.ReducesTo [1] S1024
  reducesTo_S16384x64_S16384_d1 : S16384x64.ReducesTo [1] S16384
  bcast_S16384_S16384x1_0 : S16384.BroadcastsInDim S16384x1 (![0] : Fin 1 → Fin S16384x1.rank)
  transposes_S1024x64_S64x1024_1_0 : S1024x64.Transposes [1, 0] S64x1024
  bcast_S_S16384x1024 : S_.BroadcastsInDim S16384x1024 (![] : Fin 0 → Fin S16384x1024.rank)
  bcast_S16384x1_S16384x1024_0_1 : S16384x1.BroadcastsInDim S16384x1024 (![0, 1] : Fin 2 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  reducesTo_S16384x1024_S16384_d1 : S16384x1024.ReducesTo [1] S16384
  bcast_S_S16384 : S_.BroadcastsInDim S16384 (![] : Fin 0 → Fin S16384.rank)
  reducesTo_S16384_S_d0 : S16384.ReducesTo [0] S_
  dot_S16384x64_S64x1024_S16384x1024_1_0_0_1_n_n_wf : DotDims.WF S16384x64 S64x1024 S16384x1024 [1] [0] [0] [1] [] []

variable [Facts]

def dot_S16384x64_S64x1024_S16384x1024_1_0_0_1_n_n : DotDims S16384x64 S64x1024 S16384x1024 where
  lhsContracting := [1]
  rhsContracting := [0]
  lhsNonContracting := [0]
  rhsNonContracting := [1]
  lhsBatch := []
  rhsBatch := []
  wf := dot_S16384x64_S64x1024_S16384x1024_1_0_0_1_n_n_wf
def fn_where {F : FTy → Type} [FloatOps F] (arg0 : IVec S16384x1024 1) (arg1 : FVec F S1x1024 .f32) (arg2 : FVec F S_ .f32) : FVec F S16384x1024 .f32 :=
  let v0 : FVec F S_ .f32 := id arg2
  let v1 : FVec F S16384x1024 .f32 := broadcastInDim S16384x1024 ![0, 1] bcast_S1x1024_S16384x1024_0_1 arg1
  let v2 : FVec F S16384x1024 .f32 := broadcastInDim S16384x1024 ![] bcast_S_S16384x1024 v0
  let v3 : FVec F S16384x1024 .f32 := select arg0 v1 v2
  v3

def fn_part2 {F : FTy → Type} [FloatOps F] (main_v8 : IVec S_ 1) (main_v33 : IVec S16384 1) : IVec S_ 1 :=
  let main_c_11 : IVec S_ 1 := constantI S_ 1 1#1
  let main_v35 : IVec S_ 1 := (fun x v => Host.reduce IntOp.andi x v reducesTo_S16384_S_d0 h_S_) main_v33 main_c_11
  let main_v36 : IVec S_ 1 := andi main_v8 main_v35
  main_v36

def fn_part1 {F : FTy → Type} [FloatOps F] (main_v8 : IVec S_ 1) (main_v10 : FVec F S1024 .f32) (main_v13 : FVec F S16384x1 .f32) (main_v15 : FVec F S16384x1024 .f32) (main_v16 : FVec F S16384x1024 .f32) : IVec S_ 1 :=
  let main_v17 : FVec F S16384x1024 .f32 := mulf main_v16 main_v15
  let main_v18 : FVec F S16384x1024 .f32 := broadcastInDim S16384x1024 ![0, 1] bcast_S16384x1_S16384x1024_0_1 main_v13
  let main_v19 : FVec F S16384x1024 .f32 := subf main_v18 main_v17
  let main_v20 : FVec F S1x1024 .f32 := broadcastInDim S1x1024 ![1] bcast_S1024_S1x1024_1 main_v10
  let main_v21 : FVec F S16384x1024 .f32 := broadcastInDim S16384x1024 ![0, 1] bcast_S1x1024_S16384x1024_0_1 main_v20
  let main_v22 : FVec F S16384x1024 .f32 := addf main_v19 main_v21
  let main_cst_5 : FVec F S_ .f32 := constant S_ .f32 0x7F800000#32
  let main_v23 : FVec F S16384 .f32 := (fun x v => Host.reduce FloatOps.minimumf x v reducesTo_S16384x1024_S16384_d1 h_S_) main_v22 main_cst_5
  let main_v24 : FVec F S16384x1 .f32 := broadcastInDim S16384x1 ![0] bcast_S16384_S16384x1_0 main_v23
  let main_v25 : FVec F S16384x1024 .f32 := broadcastInDim S16384x1024 ![0, 1] bcast_S16384x1_S16384x1024_0_1 main_v24
  let main_v26 : IVec S16384x1024 1 := cmpf .oeq main_v22 main_v25
  let main_v27 : FVec F S1x1024 .f32 := broadcastInDim S1x1024 ![1] bcast_S1024_S1x1024_1 main_v10
  let main_cst_6 : FVec F S_ .f32 := constant S_ .f32 0xFF800000#32
  let main_v28 : FVec F S16384x1024 .f32 := fn_where (F := F) main_v26 main_v27 main_cst_6
  let main_cst_7 : FVec F S_ .f32 := constant S_ .f32 0xFF800000#32
  let main_v29 : FVec F S16384 .f32 := (fun x v => Host.reduce FloatOps.maximumf x v reducesTo_S16384x1024_S16384_d1 h_S_) main_v28 main_cst_7
  let main_v30 : FVec F S1x1024 .f32 := broadcastInDim S1x1024 ![1] bcast_S1024_S1x1024_1 main_v10
  let main_cst_8 : FVec F S_ .f32 := constant S_ .f32 0x7F800000#32
  let main_v31 : FVec F S16384x1024 .f32 := fn_where (F := F) main_v26 main_v30 main_cst_8
  let main_cst_9 : FVec F S_ .f32 := constant S_ .f32 0x7F800000#32
  let main_v32 : FVec F S16384 .f32 := (fun x v => Host.reduce FloatOps.minimumf x v reducesTo_S16384x1024_S16384_d1 h_S_) main_v31 main_cst_9
  let main_v33 : IVec S16384 1 := cmpf .oeq main_v29 main_v32
  let main_c_10 : IVec S_ 1 := constantI S_ 1 1#1
  let main_v34 : IVec S16384 1 := broadcastInDim S16384 ![] bcast_S_S16384 main_c_10
  fn_part2 (F := F) main_v8 main_v33

def fn {F : FTy → Type} [FloatOps F] (main_arg0 : FVec F S16384x64 .f32) (main_arg1 : FVec F S1024x64 .f32) : IVec S_ 1 :=
  let main_v0 : FVec F S16384x64 .f32 := Host.absf main_arg0
  let main_cst : FVec F S_ .f32 := constant S_ .f32 0x7F800000#32
  let main_v1 : FVec F S16384x64 .f32 := broadcastInDim S16384x64 ![] bcast_S_S16384x64 main_cst
  let main_v2 : IVec S16384x64 1 := cmpf .olt main_v0 main_v1
  let main_c : IVec S_ 1 := constantI S_ 1 1#1
  let main_v3 : IVec S_ 1 := (fun x v => Host.reduce IntOp.andi x v reducesTo_S16384x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := mulf main_arg1 main_arg1
  let main_cst_2 : FVec F S_ .f32 := constant S_ .f32 0x00000000#32
  let main_v10 : FVec F S1024 .f32 := (fun x v => Host.reduceAdd x v reducesTo_S1024x64_S1024_d1 h_S_) main_v9 main_cst_2
  let main_v11 : FVec F S16384x64 .f32 := mulf main_arg0 main_arg0
  let main_cst_3 : FVec F S_ .f32 := constant S_ .f32 0x00000000#32
  let main_v12 : FVec F S16384 .f32 := (fun x v => Host.reduceAdd x v reducesTo_S16384x64_S16384_d1 h_S_) main_v11 main_cst_3
  let main_v13 : FVec F S16384x1 .f32 := broadcastInDim S16384x1 ![0] bcast_S16384_S16384x1_0 main_v12
  let main_v14 : FVec F S64x1024 .f32 := (transpose S64x1024 [1, 0] · transposes_S1024x64_S64x1024_1_0) main_arg1
  let main_v15 : FVec F S16384x1024 .f32 := (fun l r => Host.dotGeneral dot_S16384x64_S64x1024_S16384x1024_1_0_0_1_n_n none l r) main_arg0 main_v14
  let main_cst_4 : FVec F S_ .f32 := constant S_ .f32 0x40000000#32
  let main_v16 : FVec F S16384x1024 .f32 := broadcastInDim S16384x1024 ![] bcast_S_S16384x1024 main_cst_4
  fn_part1 (F := F) main_v8 main_v10 main_v13 main_v15 main_v16
-- ==== Kernel.lean ====
abbrev S16384x64 : Shape := ⟨2, ![16384, 64]⟩
abbrev S1024x64 : Shape := ⟨2, ![1024, 64]⟩
abbrev S16384x1 : Shape := ⟨2, ![16384, 1]⟩
abbrev S4096x64 : Shape := ⟨2, ![4096, 64]⟩
abbrev S4096x1 : Shape := ⟨2, ![4096, 1]⟩
abbrev S1x1024 : Shape := ⟨2, ![1, 1024]⟩
abbrev S64x1 : Shape := ⟨2, ![64, 1]⟩
abbrev S1x64 : Shape := ⟨2, ![1, 64]⟩
abbrev S4096x1024 : Shape := ⟨2, ![4096, 1024]⟩
abbrev S4096 : Shape := ⟨1, ![4096]⟩
abbrev S16384 : Shape := ⟨1, ![16384]⟩

abbrev nBuf : Space → Nat
  | .hbm => 6
  | .vmem => 8
  | .smem => 0
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S16384x1, .f32⟩
  | .hbm, ⟨3, _⟩ => ⟨S16384x1, .i32⟩
  | .hbm, ⟨4, _⟩ => ⟨S16384, .f32⟩
  | .hbm, ⟨5, _⟩ => ⟨S16384, .i32⟩
  | .local _ .vmem, ⟨0, _⟩ => ⟨S4096x64, .f32⟩
  | .local _ .vmem, ⟨1, _⟩ => ⟨S4096x64, .f32⟩
  | .local _ .vmem, ⟨2, _⟩ => ⟨S1024x64, .f32⟩
  | .local _ .vmem, ⟨3, _⟩ => ⟨S4096x1, .f32⟩
  | .local _ .vmem, ⟨4, _⟩ => ⟨S4096x1, .f32⟩
  | .local _ .vmem, ⟨5, _⟩ => ⟨S4096x1, .i32⟩
  | .local _ .vmem, ⟨6, _⟩ => ⟨S4096x1, .i32⟩
  | .local _ .vmem, ⟨7, _⟩ => ⟨S1x1024, .f32⟩
  | _, _ => ⟨S16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "eps_sq" => some ((126765058482001 / 1267650600228229401496703205376 : ℝ) : EReal)
  | _ => none
-- ==== ReferenceIdeal.lean ====
abbrev S16384x64 : Shape := ⟨2, ![16384, 64]⟩
abbrev S1024x64 : Shape := ⟨2, ![1024, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S64x1024 : Shape := ⟨2, ![64, 1024]⟩
abbrev S16384x1024 : Shape := ⟨2, ![16384, 1024]⟩
abbrev S1x1024 : Shape := ⟨2, ![1, 1024]⟩
abbrev S1 : Shape := ⟨1, ![1]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S16384x64, .f32⟩
  | .hbm, ⟨1, _⟩ => ⟨S1024x64, .f32⟩
  | .hbm, ⟨2, _⟩ => ⟨S16384x64, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S64x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S16384x1024, .i32⟩
  | .hbm, ⟨20, _⟩ => ⟨S_, .f32⟩
  | .hbm, ⟨21, _⟩ => ⟨S_, .i32⟩
  | .hbm, ⟨22, _⟩ => ⟨S16384, .f32⟩
  | .hbm, ⟨23, _⟩ => ⟨S16384, .i32⟩
  | .hbm, ⟨24, _⟩ => ⟨S_, .i32⟩
  | .hbm, ⟨25, _⟩ => ⟨S16384, .i32⟩
  | .hbm, ⟨26, _⟩ => ⟨S16384, .i1⟩
  | .hbm, ⟨27, _⟩ => ⟨S_, .i32⟩
  | .hbm, ⟨28, _⟩ => ⟨S16384, .i32⟩
  | .hbm, ⟨29, _⟩ => ⟨S16384, .i32⟩
  | .hbm, ⟨30, _⟩ => ⟨S16384, .i32⟩
  | .hbm, ⟨31, _⟩ => ⟨S16384x1, .i32⟩
  | .hbm, ⟨32, _⟩ => ⟨S1, .i32⟩
  | .hbm, ⟨33, _⟩ => ⟨S_, .i32⟩
  | .hbm, ⟨34, _⟩ => ⟨S16384x1, .i32⟩
  | .hbm, ⟨35, _⟩ => ⟨S16384x1, .i1⟩
  | .hbm, ⟨36, _⟩ => ⟨S1x1, .i32⟩
  | .hbm, ⟨37, _⟩ => ⟨S16384x1, .i32⟩
  | .hbm, ⟨38, _⟩ => ⟨S16384x1, .i1⟩
  | .hbm, ⟨39, _⟩ => ⟨S16384x1, .i1⟩
  | .hbm, ⟨40, _⟩ => ⟨S_, .i1⟩
  | .hbm, ⟨41, _⟩ => ⟨S16384, .i1⟩
  | .hbm, ⟨42, _⟩ => ⟨S16384x64, .f32⟩
  | .hbm, ⟨43, _⟩ => ⟨S16384x64, .i1⟩
  | .hbm, ⟨44, _⟩ => ⟨S_, .f32⟩
  | .hbm, ⟨45, _⟩ => ⟨S16384x64, .f32⟩
  | .hbm, ⟨46, _⟩ => ⟨S16384x64, .f32⟩
  | .hbm, ⟨47, _⟩ => ⟨S16384x64, .f32⟩
  | .hbm, ⟨48, _⟩ => ⟨S_, .f32⟩
  | .hbm, ⟨49, _⟩ => ⟨S16384, .f32⟩
  | .hbm, ⟨50, _⟩ => ⟨S16384, .f32⟩
  | .hbm, ⟨51, _⟩ => ⟨S_, .f32⟩
  | .hbm, ⟨52, _⟩ => ⟨S16384, .f32⟩
  | .hbm, ⟨53, _⟩ => ⟨S16384, .f32⟩
  | .hbm, ⟨54, _⟩ => ⟨S16384x64, .f32⟩
  | .hbm, ⟨55, _⟩ => ⟨S_, .f32⟩
  | .hbm, ⟨56, _⟩ => ⟨S16384, .f32⟩
  | .hbm, ⟨57, _⟩ => ⟨S16384, .f32⟩
  | .hbm, ⟨58, _⟩ => ⟨S_, .f32⟩
  | .hbm, ⟨59, _⟩ => ⟨S16384, .f32⟩
  | .hbm, ⟨60, _⟩ => ⟨S16384, .f32⟩
  | .hbm, ⟨61, _⟩ => ⟨S16384x64, .f32⟩
  | .hbm, ⟨62, _⟩ => ⟨S_, .f32⟩
  | .hbm, ⟨63, _⟩ => ⟨S16384, .f32⟩
  | .hbm, ⟨64, _⟩ => ⟨S16384, .f32⟩
  | .hbm, ⟨65, _⟩ => ⟨S16384, .f32⟩
  | .hbm, ⟨66, _⟩ => ⟨S_, .f32⟩
  | .hbm, ⟨67, _⟩ => ⟨S16384, .f32⟩
  | .hbm, ⟨68, _⟩ => ⟨S16384, .f32⟩
  | _, _ => ⟨S16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_call1_c : Ref sig .tc := ⟨.hbm, 24, rfl⟩
abbrev main_call1_v0 : Ref sig .tc := ⟨.hbm, 25, rfl⟩
abbrev main_call1_v1 : Ref sig .tc := ⟨.hbm, 26, rfl⟩
abbrev main_call1_c_0 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_c_1 : Ref sig .tc := ⟨.hbm, 32, rfl⟩
abbrev main_call1_c_2 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_3 : Ref sig .tc := ⟨.hbm, 40, rfl⟩
abbrev main_call1_v12 : Ref sig .tc := ⟨.hbm, 41, rfl⟩
abbrev main_call1_v13 : Ref sig .tc := ⟨.hbm, 42, rfl⟩
abbrev main_call1_v14 : Ref sig .tc := ⟨.hbm, 43, rfl⟩
abbrev main_call1_cst : Ref sig .tc := ⟨.hbm, 44, rfl⟩
abbrev main_call1_v15 : Ref sig .tc := ⟨.hbm, 45, rfl⟩
abbrev main_v15 : Ref sig .tc := ⟨.hbm, 46, rfl⟩
abbrev main_call2_v0 : Ref sig .tc := ⟨.hbm, 47, rfl⟩
abbrev main_call2_cst : Ref sig .tc := ⟨.hbm, 48, rfl⟩
abbrev main_call2_v1 : Ref sig .tc := ⟨.hbm, 49, rfl⟩
abbrev main_v16 : Ref sig .tc := ⟨.hbm, 50, rfl⟩
abbrev main_cst_2 : Ref sig .tc := ⟨.hbm, 51, rfl⟩
abbrev main_v17 : Ref sig .tc := ⟨.hbm, 52, rfl⟩
abbrev main_v18 : Ref sig .tc := ⟨.hbm, 53, rfl⟩
abbrev main_call3_v0 : Ref sig .tc := ⟨.hbm, 54, rfl⟩
abbrev main_call3_cst : Ref sig .tc := ⟨.hbm, 55, rfl⟩
abbrev main_call3_v1 : Ref sig .tc := ⟨.hbm, 56, rfl⟩
abbrev main_v19 : Ref sig .tc := ⟨.hbm, 57, rfl⟩
abbrev main_cst_3 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_4 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_cst_5 : Ref sig .tc := ⟨.hbm, 66, rfl⟩
abbrev main_v26 : Ref sig .tc := ⟨.hbm, 67, rfl⟩
abbrev main_v27 : Ref sig .tc := ⟨.hbm, 68, rfl⟩

abbrev nD : Nat := 1
abbrev τ : Topo := Topo.v7x

variable {F : FTy → Type} [FloatOps F]
-- ==== Proof.Block.lean ====
/- What one grid point of the kernel writes: the two output blocks and the scratch row, as functions of the
   point's block of rows and of the centres. -/
module

public import proofs.«01_k».proof.Defs
public import proofs.«01_k».proof.Proof.Gen.KernelIdeal.Frame
public import Idealize.ShloMosaic.Lib.Pipeline.ValueKit
public import Idealize.ShloMosaic.Lib.Claim

@[expose] public section

noncomputable section

open Idealize.ShloMosaic Idealize.ShloMosaic.TcCoe Idealize.SL.Sem
open Idealize.ShloMosaic.Pipeline (Dat)

namespace Cert.KernelIdeal.RowValue

open Cert.KernelIdeal Cert.KernelIdeal.Gen

variable (m : (ℓ : Loc nD τ sig) → Buf (Elt Ideal) ℓ) (ρ : Dev nD → PrngReg)

/-- The distances a point stores, from its rows `x`, the centres `C` and the row `s` of the centres' squared norms. -/
def distBlock (x : Vec Ideal S4096x64 .f32) (C : Vec Ideal S1024x64 .f32) (s : Vec Ideal S1x1024 .f32) : Vec Ideal S4096x1 .f32 :=
  k0_pay1 (F := Ideal) (k0_pay8 x C s) (k0_pay9 x C s) (k0_pay10 x)

/-- The assignments a point stores, from the same three. -/
def assignBlock (x : Vec Ideal S4096x64 .f32) (C : Vec Ideal S1024x64 .f32) (s : Vec Ideal S1x1024 .f32) : Vec Ideal S4096x1 .i32 :=
  k0_pay2 (F := Ideal) (k0_pay7 x C s)

/-- The centres' block is the whole array of centres at every point. -/
theorem iblk1 (c : Dev nD) (t : Fin cfg0.N) : iblk m c 1 t = m ((c : Thread nD τ).loc main_arg1) := by
  have idx : ∀ t : Fin cfg0.N, win0_1.index t = ![0, 0] := (by decide +kernel : ∀ t : Fin grid0.N, _)
  blk_ext! [iblk, V, idx t]

/-- The first point leaves the centres' squared norms in the scratch row. -/
theorem scratch_first (c : Dev nD) (i : grid0.Coords) (a1 : Memref sig .tc .vmem S4096x64 .f32) (h1 : a1.IsWhole)
    (a2 : Memref sig .tc .vmem S1024x64 .f32) (h2 : a2.IsWhole) (a3 : Memref sig .tc .vmem S4096x1 .f32) (h3 : a3.IsWhole)
    (a4 : Memref sig .tc .vmem S4096x1 .i32) (h4 : a4.IsWhole) (a5 : Memref sig .tc .vmem S1x1024 .f32) (h5 : a5.IsWhole)
    (hc : cond0_0 i) (x : Vec Ideal S4096x64 .f32) (C : Vec Ideal S1024x64 .f32) :
    sout0_A_0 c i a1 h1 a2 h2 a3 h3 a4 h4 a5 h5 hc x C = k0_pay3 (F := Ideal) C := by
  frame_out

/-- The first point leaves the distances of its rows, by the row of squared norms it has just stored. -/
theorem dist_first (c : Dev nD) (i : grid0.Coords) (a1 : Memref sig .tc .vmem S4096x64 .f32) (h1 : a1.IsWhole)
    (a2 : Memref sig .tc .vmem S1024x64 .f32) (h2 : a2.IsWhole) (a3 : Memref sig .tc .vmem S4096x1 .f32) (h3 : a3.IsWhole)
    (a4 : Memref sig .tc .vmem S4096x1 .i32) (h4 : a4.IsWhole) (a5 : Memref sig .tc .vmem S1x1024 .f32) (h5 : a5.IsWhole)
    (hc : cond0_0 i) (x : Vec Ideal S4096x64 .f32) (C : Vec Ideal S1024x64 .f32) :
    out0_A_2 c i a1 h1 a2 h2 a3 h3 a4 h4 a5 h5 hc x C = distBlock x C (k0_pay3 (F := Ideal) C) := by
  unfold distBlock
  frame_out

/-- The first point leaves the assignments of its rows likewise. -/
theorem assign_first (c : Dev nD) (i : grid0.Coords) (a1 : Memref sig .tc .vmem S4096x64 .f32) (h1 : a1.IsWhole)
    (a2 : Memref sig .tc .vmem S1024x64 .f32) (h2 : a2.IsWhole) (a3 : Memref sig .tc .vmem S4096x1 .f32) (h3 : a3.IsWhole)
    (a4 : Memref sig .tc .vmem S4096x1 .i32) (h4 : a4.IsWhole) (a5 : Memref sig .tc .vmem S1x1024 .f32) (h5 : a5.IsWhole)
    (hc : cond0_0 i) (x : Vec Ideal S4096x64 .f32) (C : Vec Ideal S1024x64 .f32) :
    out0_A_3 c i a1 h1 a2 h2 a3 h3 a4 h4 a5 h5 hc x C = assignBlock x C (k0_pay3 (F := Ideal) C) := by
  unfold assignBlock
  frame_out

/-- A later point leaves the distances of its rows, by the row of squared norms it finds. -/
theorem dist_later (c : Dev nD) (i : grid0.Coords) (a1 : Memref sig .tc .vmem S4096x64 .f32) (h1 : a1.IsWhole)
    (a2 : Memref sig .tc .vmem S1024x64 .f32) (h2 : a2.IsWhole) (a3 : Memref sig .tc .vmem S4096x1 .f32) (h3 : a3.IsWhole)
    (a4 : Memref sig .tc .vmem S4096x1 .i32) (h4 : a4.IsWhole) (a5 : Memref sig .tc .vmem S1x1024 .f32) (h5 : a5.IsWhole)
    (hc : ¬cond0_0 i) (x : Vec Ideal S4096x64 .f32) (C : Vec Ideal S1024x64 .f32) (s : Vec Ideal S1x1024 .f32) :
    out0_B_2 c i a1 h1 a2 h2 a3 h3 a4 h4 a5 h5 hc x C s = distBlock x C s := by
  unfold distBlock
  frame_out

/-- A later point leaves the assignments of its rows likewise. -/
theorem assign_later (c : Dev nD) (i : grid0.Coords) (a1 : Memref sig .tc .vmem S4096x64 .f32) (h1 : a1.IsWhole)
    (a2 : Memref sig .tc .vmem S1024x64 .f32) (h2 : a2.IsWhole) (a3 : Memref sig .tc .vmem S4096x1 .f32) (h3 : a3.IsWhole)
    (a4 : Memref sig .tc .vmem S4096x1 .i32) (h4 : a4.IsWhole) (a5 : Memref sig .tc .vmem S1x1024 .f32) (h5 : a5.IsWhole)
    (hc : ¬cond0_0 i) (x : Vec Ideal S4096x64 .f32) (C : Vec Ideal S1024x64 .f32) (s : Vec Ideal S1x1024 .f32) :
    out0_B_3 c i a1 h1 a2 h2 a3 h3 a4 h4 a5 h5 hc x C s = assignBlock x C s := by
  unfold assignBlock
  frame_out

/-- After every point the scratch row holds the centres' squared norms. -/
theorem scratch (c : Dev nD) (n : ℕ) (hn : n < cfg0.N) :
    (outsAt0 m c n hn).2.2 = k0_pay3 (F := Ideal) (m ((c : Thread nD τ).loc main_arg1)) := by
  induction n with
  | zero =>
    rw [outsAt0_A m c ⟨0, hn⟩ rfl]
    dsimp only
    rw [scratch_first, iblk1]
  | succ n ih =>
    have hN : cfg0.N = 4 := N_0
    have hB : ¬(⟨n + 1, hn⟩ : Fin cfg0.N).val % 4 = 0 := by dsimp only; omega
    rw [outsAt0_B m c ⟨n + 1, hn⟩ hB]
    dsimp only
    exact ih _

/-- What a point leaves for the distances' block. -/
theorem outs_dist (c : Dev nD) (t : Fin cfg0.N) :
    (outsAt0 m c t.val t.isLt).1 = distBlock (iblk m c 0 t) (m ((c : Thread nD τ).loc main_arg1))
      (k0_pay3 (F := Ideal) (m ((c : Thread nD τ).loc main_arg1))) := by
  by_cases h : t.val % 4 = 0
  · rw [outsAt0_A m c t h]
    dsimp only
    rw [dist_first, iblk1]
  · rw [outsAt0_B m c t h]
    dsimp only
    rw [dist_later, iblk1, scratch]

/-- What a point leaves for the assignments' block. -/
theorem outs_assign (c : Dev nD) (t : Fin cfg0.N) :
    (outsAt0 m c t.val t.isLt).2.1 = assignBlock (iblk m c 0 t) (m ((c : Thread nD τ).loc main_arg1))
      (k0_pay3 (F := Ideal) (m ((c : Thread nD τ).loc main_arg1))) := by
  by_cases h : t.val % 4 = 0
  · rw [outsAt0_A m c t h]
    dsimp only
    rw [assign_first, iblk1]
  · rw [outsAt0_B m c t h]
    dsimp only
    rw [assign_later, iblk1, scratch]

end Cert.KernelIdeal.RowValue

end
-- ==== Proof.Nearest.lean ====
/- The mathematics of one row: its nearest centres, the first of them, and the cosine distance to it, over the
   reals; and the operations of the extended reals that compute these. No program is named here. -/
module

public import Idealize.ShloMosaic.PureOps.Ideal.Laws
public import Idealize.ShloMosaic.Lib.IdealHost

@[expose] public section

noncomputable section

open Idealize.ShloMosaic

namespace Cert.Nearest

/-- `a` is the first index at which `f` is least. -/
def FirstMin {n : ℕ} (f : Fin n → ℝ) (a : Fin n) : Prop := (∀ k, f a ≤ f k) ∧ ∀ k, k < a → f a < f k

/-- A finite family of reals that is not empty has a first least element. -/
theorem exists_firstMin {n : ℕ} [NeZero n] (f : Fin n → ℝ) : ∃ a, FirstMin f a := by
  obtain ⟨b, -, hb⟩ := Finset.exists_min_image Finset.univ f ⟨0, Finset.mem_univ _⟩
  obtain ⟨a, ha, hmin⟩ := (Finset.univ.filter fun k => f k = f b).exists_min_image id ⟨b, by simp⟩
  have hfa : f a = f b := by simpa using ha
  refine ⟨a, fun k => hfa ▸ hb k (Finset.mem_univ _), fun k hk => ?_⟩
  rcases (hb k (Finset.mem_univ _)).lt_or_eq with h | h
  · rwa [hfa]
  · exact absurd (hmin k (by simp [h])) (not_le.mpr hk)

/-- Adding one number to every value moves no minimum. -/
theorem FirstMin.add {n : ℕ} {f g : Fin n → ℝ} {a : Fin n} (h : FirstMin f a) (c : ℝ) (hg : ∀ k, g k = f k + c) :
    FirstMin g a := by
  refine ⟨fun k => ?_, fun k hk => ?_⟩
  · rw [hg, hg]; linarith [h.1 k]
  · rw [hg, hg]; linarith [h.2 k hk]

/-- The fold of the minimum is the value that is attained and is below all. -/
theorem fold_min_eq {n : ℕ} {g : Fin n → EReal} {b v : EReal} (hb : v ≤ b) (k : Fin n) (hk : g k = v)
    (h : ∀ k, v ≤ g k) : Finset.univ.fold min b g = v := by
  apply le_antisymm
  · rw [← hk]; exact (Finset.fold_min_le _).2 (Or.inr ⟨k, Finset.mem_univ _, le_rfl⟩)
  · exact (Finset.le_fold_min _).2 ⟨hb, fun k _ => h k⟩

/-- The fold of the maximum is the value that is attained and is above all. -/
theorem fold_max_eq {n : ℕ} {g : Fin n → EReal} {b v : EReal} (hb : b ≤ v) (k : Fin n) (hk : g k = v)
    (h : ∀ k, g k ≤ v) : Finset.univ.fold max b g = v := by
  apply le_antisymm
  · exact (Finset.fold_max_le _).2 ⟨hb, fun k _ => h k⟩
  · rw [← hk]; exact (Finset.le_fold_max _).2 (Or.inr ⟨k, Finset.mem_univ _, le_rfl⟩)

/-! ## Rows of reals -/

/-- The product of two rows, summed. -/
def dot (z c : Fin 64 → ℝ) : ℝ := ∑ j, z j * c j

/-- The squared norm of a row. -/
def normSq (c : Fin 64 → ℝ) : ℝ := dot c c

/-- The squared distance less the row's own squared norm, as the kernel sums it. -/
def score (z c : Fin 64 → ℝ) : ℝ := ∑ j, z j * (-2 * c j) + normSq c

/-- The floor under a norm. -/
def eps : ℝ := 11258999 / 2 ^ 50

/-- The cosine distance, with norms of at least `eps`. -/
def cosDist (z c : Fin 64 → ℝ) : ℝ := 1 - dot z c / (max (Real.sqrt (normSq z)) eps * max (Real.sqrt (normSq c)) eps)

/-- A score as the squared norm less twice the inner product. -/
theorem score_eq (z c : Fin 64 → ℝ) : score z c = normSq c - 2 * dot z c := by
  have : ∑ j, z j * (-2 * c j) = -2 * ∑ j, z j * c j := by
    rw [Finset.mul_sum]; exact Finset.sum_congr rfl fun j _ => by ring
  rw [score, this, dot]; ring

/-- A squared norm is not negative. -/
theorem normSq_nonneg (c : Fin 64 → ℝ) : 0 ≤ normSq c := by
  unfold normSq dot
  exact Finset.sum_nonneg fun j _ => mul_self_nonneg (c j)

/-- The floor of a norm is positive. -/
theorem eps_pos : 0 < eps := by norm_num [eps]

/-- Half of a centre's squared norm less its score is its product with the row. -/
theorem half_sub_score (z c : Fin 64 → ℝ) : 1 / 2 * (normSq c - score z c) = dot z c := by rw [score_eq]; ring

/-- The larger of a square and `eps²` has the larger of the roots. -/
theorem sqrt_max (x : ℝ) : Real.sqrt (max x (eps ^ 2)) = max (Real.sqrt x) eps := by
  rw [(Real.sqrt_monotone).map_max, Real.sqrt_sq eps_pos.le]

/-- `1 − d · (1/√max(a, eps²) · 1/√max(b, eps²))`, as the kernel spells the cosine distance. -/
theorem cosDist_eq (z c : Fin 64 → ℝ) :
    (1 : EReal) - ((dot z c : ℝ) : EReal)
      * (Ideal.rsqrt ((max (normSq z) (eps ^ 2) : ℝ) : EReal) * Ideal.rsqrt ((max (normSq c) (eps ^ 2) : ℝ) : EReal))
      = ((cosDist z c : ℝ) : EReal) := by
  have hp : ∀ x : ℝ, 0 < max x (eps ^ 2) := fun x => lt_max_of_lt_right (pow_pos eps_pos 2)
  rw [Ideal.rsqrt_coe, Ideal.rsqrt_coe, if_neg (hp _).not_gt, if_neg (hp _).ne', if_neg (hp _).not_gt,
    if_neg (hp _).ne', sqrt_max, sqrt_max, cosDist]
  rw [show (1 : EReal) = ((1 : ℝ) : EReal) from rfl, ← EReal.coe_mul, ← EReal.coe_mul, ← EReal.coe_sub,
    div_eq_mul_inv, mul_inv]

/-- `1 − d / (max(√a, eps) · max(√b, eps))`, as the reference spells it. -/
theorem cosDist_eq_div (z c : Fin 64 → ℝ) :
    (1 : EReal) - Ideal.div ((dot z c : ℝ) : EReal)
      (max (Ideal.sqrt ((normSq z : ℝ) : EReal)) (eps : EReal) * max (Ideal.sqrt ((normSq c : ℝ) : EReal)) (eps : EReal))
      = ((cosDist z c : ℝ) : EReal) := by
  have hp : ∀ x : ℝ, 0 < max x eps := fun x => lt_max_of_lt_right eps_pos
  rw [Ideal.sqrt_coe, Ideal.sqrt_coe, if_neg (normSq_nonneg _).not_gt, if_neg (normSq_nonneg _).not_gt,
    ← EReal.coe_strictMono.monotone.map_max, ← EReal.coe_strictMono.monotone.map_max, ← EReal.coe_mul,
    Ideal.div_coe (mul_pos (hp _) (hp _)).ne', ← EReal.coe_mul, show (1 : EReal) = ((1 : ℝ) : EReal) from rfl,
    ← EReal.coe_sub, cosDist, mul_one_div]

/-- A finite sum of reals among the extended reals. -/
theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum of products of reals among the extended reals. -/
theorem coe_dot (z c : Fin 64 → ℝ) : ∑ j, ((z j : ℝ) : EReal) * ((c j : ℝ) : EReal) = ((dot z c : ℝ) : EReal) := by
  rw [dot, coe_sum]
  exact Finset.sum_congr rfl fun j _ => (EReal.coe_mul _ _).symm

/-! ## Constants -/

/-- The word of infinity. -/
theorem ofBits_top : Ideal.ofBits .f32 0x7F800000#32 = ⊤ := by simp [Ideal.ofBits, Ideal.ieee]

/-- The word of minus infinity. -/
theorem ofBits_bot : Ideal.ofBits .f32 0xFF800000#32 = ⊥ := by simp [Ideal.ofBits, Ideal.ieee]

/-- The word of -2. -/
theorem ofBits_neg_two : Ideal.ofBits .f32 0xC0000000#32 = ((-2 : ℝ) : EReal) := by
  simp [Ideal.ofBits, Ideal.ieee, -EReal.coe_mul, -EReal.coe_neg]; norm_num

/-- The word of 2. -/
theorem ofBits_two : Ideal.ofBits .f32 0x40000000#32 = ((2 : ℝ) : EReal) := by
  simp [Ideal.ofBits, Ideal.ieee, -EReal.coe_mul]; norm_num

/-- The word of 1/2. -/
theorem ofBits_half : Ideal.ofBits .f32 0x3F000000#32 = ((1 / 2 : ℝ) : EReal) := by
  simp [Ideal.ofBits, Ideal.ieee, -EReal.coe_mul]; norm_num

/-- The word of 1024. -/
theorem ofBits_count : Ideal.ofBits .f32 0x44800000#32 = ((1024 : ℝ) : EReal) := by
  simp [Ideal.ofBits, Ideal.ieee, -EReal.coe_mul]; norm_num

/-- The word of the floor of a norm. -/
theorem ofBits_eps : Ideal.ofBits .f32 0x322BCC77#32 = ((eps : ℝ) : EReal) := by
  simp [Ideal.ofBits, Ideal.ieee, -EReal.coe_mul, eps]; norm_num

/-- The named square is `eps²`. -/
theorem eps_sq : (126765058482001 / 1267650600228229401496703205376 : ℝ) = eps ^ 2 := by norm_num [eps]

/-- The conversion to an integer of an index. -/
theorem fptosi_index {a : ℕ} (ha : a < 1024) : Ideal.fptosi 32 (((a : ℝ) : ℝ) : EReal) = BitVec.ofNat 32 a := by
  have h : Ideal.toIntClamped (-(2 ^ (32 - 1) : Nat)) ((2 ^ (32 - 1) : Nat) - 1) (((a : ℝ) : ℝ) : EReal) = (a : ℤ) := by
    show max _ (min _ (if (0 : ℝ) ≤ (a : ℝ) then ⌊(a : ℝ)⌋ else ⌈(a : ℝ)⌉)) = (a : ℤ)
    rw [if_pos (Nat.cast_nonneg a), Int.floor_natCast]
    norm_num
    omega
  rw [Ideal.fptosi, h, BitVec.ofInt_natCast]

/-- A selection by a test. -/
theorem select_ofBool {α : Type} (p : Prop) [Decidable p] (u v : α) :
    Scalar.select (BitVec.ofBool (decide p)) u v = if p then u else v := by
  by_cases h : p <;> simp [Scalar.select, h]

/-- An index of a centre as a signed word. -/
theorem index_toInt (a : Fin 1024) : (BitVec.ofNat 32 a.val).toInt = (a.val : ℤ) := by
  have hk := a.isLt
  rw [BitVec.toInt_eq_toNat_of_lt (by rw [BitVec.toNat_ofNat]; omega), BitVec.toNat_ofNat]
  omega

end Cert.Nearest

end
-- ==== Proof.Payload.lean ====
/- What the kernel stores for one row, when the row and the centres are real numbers. -/
module

public import proofs.«01_k».proof.Proof.Block
public import proofs.«01_k».proof.Proof.Nearest
public import Idealize.ShloMosaic.Lib.Pointwise

@[expose] public section

noncomputable section

open Idealize.ShloMosaic Idealize.ShloMosaic.TcCoe Idealize.SL.Sem

namespace Cert.KernelIdeal.RowValue

open Cert.KernelIdeal Cert.KernelIdeal.Gen Cert.Nearest

variable {x : Vec Ideal S4096x64 .f32} {C : Vec Ideal S1024x64 .f32} {s : Vec Ideal S1x1024 .f32}
variable {r : Fin 4096} {z : Fin 64 → ℝ} {c : Fin 1024 → Fin 64 → ℝ} {a : Fin 1024}

/-- The scratch row holds the centres' squared norms. -/
theorem pay3_eq (hC : ∀ k j, C (ix2 k j) = ((c k j : ℝ) : EReal)) (k : Fin 1024) :
    k0_pay3 (F := Ideal) C (ix2 0 k) = ((normSq (c k) : ℝ) : EReal) := by
  unfold k0_pay3
  pointwise
  rw [normSq, ← coe_dot]
  exact Finset.sum_congr rfl fun j _ => by rw [hC]

/-- The scores of a row. -/
theorem pay4_eq (hx : ∀ j, x (ix2 r j) = ((z j : ℝ) : EReal)) (hC : ∀ k j, C (ix2 k j) = ((c k j : ℝ) : EReal))
    (hs : ∀ k, s (ix2 0 k) = ((normSq (c k) : ℝ) : EReal)) (k : Fin 1024) :
    k0_pay4 (F := Ideal) x C s (ix2 r k) = ((score z (c k) : ℝ) : EReal) := by
  unfold k0_pay4
  pointwise
  rw [hs, ofBits_neg_two, score, EReal.coe_add]
  refine congrArg (· + _) ?_
  rw [← dot, ← coe_dot]
  exact Finset.sum_congr rfl fun j _ => by rw [hx, hC, EReal.coe_mul]

/-- The least score. -/
theorem pay5_eq (h4 : ∀ k, k0_pay4 (F := Ideal) x C s (ix2 r k) = ((score z (c k) : ℝ) : EReal))
    (ha : FirstMin (fun k => score z (c k)) a) :
    k0_pay5 (F := Ideal) x C s (ix2 r 0) = ((score z (c a) : ℝ) : EReal) := by
  unfold k0_pay5
  pointwise
  rw [ofBits_top]
  exact fold_min_eq le_top a (h4 a) fun k => by rw [h4]; exact EReal.coe_le_coe (ha.1 k)

/-- The test for a nearest centre. -/
theorem pay6_eq (h4 : ∀ k, k0_pay4 (F := Ideal) x C s (ix2 r k) = ((score z (c k) : ℝ) : EReal))
    (ha : FirstMin (fun k => score z (c k)) a) (k : Fin 1024) :
    k0_pay6 (F := Ideal) x C s (ix2 r k) = BitVec.ofBool (decide (score z (c k) = score z (c a))) := by
  unfold k0_pay6
  pointwise
  rw [pay5_eq h4 ha, h4]
  exact congrArg BitVec.ofBool (decide_eq_decide.2 EReal.coe_eq_coe_iff)

/-- The first nearest centre's index, as a number. -/
theorem pay7_eq (h4 : ∀ k, k0_pay4 (F := Ideal) x C s (ix2 r k) = ((score z (c k) : ℝ) : EReal))
    (ha : FirstMin (fun k => score z (c k)) a) :
    k0_pay7 (F := Ideal) x C s (ix2 r 0) = (((a.val : ℝ) : ℝ) : EReal) := by
  unfold k0_pay7
  pointwise
  rw [ofBits_top, ofBits_count]
  have idx : ∀ k : Fin 1024, (FloatOps.sitofp .f32 (BitVec.ofNat 32 k.val) : Ideal .f32) = (((k.val : ℝ) : ℝ) : EReal) := fun k => by
    show (((BitVec.ofNat 32 k.val).toInt : ℝ) : EReal) = _
    rw [index_toInt]; norm_cast
  refine fold_min_eq le_top a ?_ fun k => ?_
  · rw [pay6_eq h4 ha, select_ofBool, if_pos rfl, idx]
  · rw [pay6_eq h4 ha, select_ofBool, idx]
    split
    · next h =>
      refine EReal.coe_le_coe (Nat.cast_le.2 ?_)
      by_contra hlt
      exact absurd h (ha.2 k (not_le.1 hlt)).ne'
    · exact EReal.coe_le_coe (by exact_mod_cast a.isLt.le)

/-- The assignment. -/
theorem assignBlock_eq (h4 : ∀ k, k0_pay4 (F := Ideal) x C s (ix2 r k) = ((score z (c k) : ℝ) : EReal))
    (ha : FirstMin (fun k => score z (c k)) a) : assignBlock x C s (ix2 r 0) = BitVec.ofNat 32 a.val := by
  unfold assignBlock k0_pay2
  pointwise
  rw [pay7_eq h4 ha]
  exact fptosi_index a.isLt

/-- The squared norm of the nearest centres, where they have one. -/
theorem pay8_eq (h4 : ∀ k, k0_pay4 (F := Ideal) x C s (ix2 r k) = ((score z (c k) : ℝ) : EReal))
    (hs : ∀ k, s (ix2 0 k) = ((normSq (c k) : ℝ) : EReal))
    (ha : FirstMin (fun k => score z (c k)) a) (hu : ∀ k, score z (c k) = score z (c a) → normSq (c k) = normSq (c a)) :
    k0_pay8 (F := Ideal) x C s (ix2 r 0) = ((normSq (c a) : ℝ) : EReal) := by
  unfold k0_pay8
  pointwise
  rw [ofBits_bot]
  refine fold_max_eq bot_le a ?_ fun k => ?_
  · rw [pay6_eq h4 ha, select_ofBool, if_pos rfl, hs]
  · rw [pay6_eq h4 ha, select_ofBool, hs]
    split
    · next h => rw [hu k h]
    · exact bot_le

/-- The named square. -/
theorem named_eps : (Named.named κ "eps_sq" 0x24E69595#32 : Ideal .f32) = ((eps ^ 2 : ℝ) : EReal) := by
  rw [← eps_sq]
  exact (IdealRules.named_const.statement κ "eps_sq" .f32 0x24E69595#32 _ rfl).2.2

/-- Half of a difference, on columns. -/
def halfDiff (u v : FVec Ideal S4096x1 .f32) : FVec Ideal S4096x1 .f32 :=
  mulf (broadcast S4096x1 (Scalar.ofBits .f32 0x3F000000#32)) (subf u v)

/-- Half a difference at a row. -/
theorem halfDiff_at (u v : FVec Ideal S4096x1 .f32) :
    halfDiff u v (ix2 r 0) = Ideal.ofBits .f32 0x3F000000#32 * (u (ix2 r 0) - v (ix2 r 0)) := by
  unfold halfDiff
  pointwise

/-- The inner product is half of the norm's excess over the least score. -/
theorem pay9_def : k0_pay9 (F := Ideal) x C s = halfDiff (k0_pay8 x C s) (k0_pay5 x C s) := rfl

/-- The product of the row with its nearest centre. -/
theorem pay9_eq (h5 : k0_pay5 (F := Ideal) x C s (ix2 r 0) = ((score z (c a) : ℝ) : EReal))
    (h8 : k0_pay8 (F := Ideal) x C s (ix2 r 0) = ((normSq (c a) : ℝ) : EReal)) :
    k0_pay9 (F := Ideal) x C s (ix2 r 0) = ((dot z (c a) : ℝ) : EReal) := by
  rw [pay9_def, halfDiff_at, h8, h5, ofBits_half, ← EReal.coe_sub, ← EReal.coe_mul, half_sub_score]

/-- The row's squared norm above the floor. -/
theorem pay10_eq (hx : ∀ j, x (ix2 r j) = ((z j : ℝ) : EReal)) :
    k0_pay10 (F := Ideal) x (ix2 r 0) = ((max (normSq z) (eps ^ 2) : ℝ) : EReal) := by
  unfold k0_pay10
  pointwise
  rw [named_eps, EReal.coe_strictMono.monotone.map_max, normSq, ← coe_dot]
  simp only [hx]

/-- The stored distance, of the three columns it is computed from. -/
theorem pay1_at (u v w : FVec Ideal S4096x1 .f32) : k0_pay1 (F := Ideal) u v w (ix2 r 0)
    = 1 - v (ix2 r 0) * (Ideal.rsqrt (w (ix2 r 0))
      * Ideal.rsqrt (max (u (ix2 r 0)) (Named.named κ "eps_sq" 0x24E69595#32 : Ideal .f32))) := by
  unfold k0_pay1
  pointwise

/-- The distance. -/
theorem distBlock_eq (hx : ∀ j, x (ix2 r j) = ((z j : ℝ) : EReal))
    (h5 : k0_pay5 (F := Ideal) x C s (ix2 r 0) = ((score z (c a) : ℝ) : EReal))
    (h8 : k0_pay8 (F := Ideal) x C s (ix2 r 0) = ((normSq (c a) : ℝ) : EReal)) :
    distBlock x C s (ix2 r 0) = ((cosDist z (c a) : ℝ) : EReal) := by
  rw [distBlock, pay1_at, h8, pay9_eq h5 h8, pay10_eq hx, named_eps, ← EReal.coe_strictMono.monotone.map_max]
  exact cosDist_eq z (c a)

end Cert.KernelIdeal.RowValue

end
-- ==== Proof.KernelRun.lean ====
/- The kernel's two result arrays after its run, row by row. -/
module

public import proofs.«01_k».proof.Proof.Payload

@[expose] public section

noncomputable section

open Idealize.ShloMosaic Idealize.ShloMosaic.TcCoe Idealize.SL.Sem
open Idealize.ShloMosaic.Pipeline (Dat)

namespace Cert.KernelIdeal.RowValue

open Cert.KernelIdeal Cert.KernelIdeal.Gen Cert.Nearest

variable (m : (ℓ : Loc nD τ sig) → Buf (Elt Ideal) ℓ) (ρ : Dev nD → PrngReg)

/-- The grid point that handles a row. -/
def point (n : Fin 16384) : Fin cfg0.N := ⟨n.val / 4096, by rw [show cfg0.N = 4 from N_0]; omega⟩

/-- The row's place in that point's block. -/
def place (n : Fin 16384) : Fin 4096 := ⟨n.val % 4096, Nat.mod_lt _ (by norm_num)⟩

/-- The distance of row `n`. -/
def distRow (c : Dev nD) (n : Fin 16384) : EReal :=
  distBlock (iblk m c 0 (point n)) (m ((c : Thread nD τ).loc main_arg1))
    (k0_pay3 (F := Ideal) (m ((c : Thread nD τ).loc main_arg1))) (ix2 (place n) 0)

/-- The assignment of row `n`. -/
def assignRow (c : Dev nD) (n : Fin 16384) : BitVec 32 :=
  assignBlock (iblk m c 0 (point n)) (m ((c : Thread nD τ).loc main_arg1))
    (k0_pay3 (F := Ideal) (m ((c : Thread nD τ).loc main_arg1))) (ix2 (place n) 0)

/-- The block of rows of a point is that part of the array. -/
theorem iblk0_at (c : Dev nD) (t : Fin cfg0.N) (r : Fin 4096) (j : Fin 64) (h : 4096 * t.val + r.val < 16384) :
    iblk m c 0 t (ix2 r j) = m ((c : Thread nD τ).loc main_arg0) (ix2 ⟨4096 * t.val + r.val, h⟩ j) := by
  have idx : ∀ t : Fin cfg0.N, win0_0.index t = ![t.val, 0] := (by decide +kernel : ∀ t : Fin grid0.N, _)
  blk_ext! [iblk, V, idx t]

/-- The block of rows read at the place of row `n` is that row of the array. -/
theorem iblk0 (c : Dev nD) (n : Fin 16384) (j : Fin 64) :
    iblk m c 0 (point n) (ix2 (place n) j) = m ((c : Thread nD τ).loc main_arg0) (ix2 n j) := by
  have e : 4096 * (point n).val + (place n).val = n.val := Nat.div_add_mod n.val 4096
  rw [iblk0_at m c (point n) (place n) j (e ▸ n.isLt)]
  exact congrArg (fun k => m ((c : Thread nD τ).loc main_arg0) (ix2 k j)) (Fin.ext e)

/-- Row `4096 t + r` is handled by point `t` at place `r`. -/
theorem point_place {t : Fin cfg0.N} {r : Fin 4096} {n : Fin 16384} (h : n.val = t.val * 4096 + r.val) :
    point n = t ∧ place n = r := by
  have := r.isLt
  exact ⟨Fin.ext (show n.val / 4096 = t.val by omega), Fin.ext (show n.val % 4096 = r.val by omega)⟩

/-- An index of a column is its row. -/
theorem col_eq (y : S4096x1.Idx) : y = ix2 (y 0) 0 := by
  funext a
  match a with
  | ⟨0, _⟩ => rfl
  | ⟨1, _⟩ =>
    refine Fin.ext ?_
    show (y 1).val = 0
    have : (y 1).val < 1 := (y 1).isLt
    omega

/-- The distances' array after the run. -/
theorem dist_arr (c : Dev nD) : (dats m 0 c).arrAt 2 cfg0.N = fun i => distRow m c (i 0) := by
  refine (dats m 0 c).arrAt_eq_of_covers 2 _ (by decide +kernel) fun t hf y => ?_
  have idx : ∀ t : Fin cfg0.N, win0_2.index t = ![t.val, 0] := (by decide +kernel : ∀ t : Fin grid0.N, _)
  have e : ((win0_2.blk t).view.emb y 0 : Fin 16384).val = t.val * 4096 + (y 0).val := by blk_simp [idx t]
  obtain ⟨hp, hq⟩ := point_place (t := t) (r := y 0) e
  blk_simp
  rw [after0_2, outs_dist]
  unfold distRow
  rw [hp, hq]
  exact congrArg _ (col_eq y)

/-- The assignments' array after the run. -/
theorem assign_arr (c : Dev nD) : (dats m 0 c).arrAt 3 cfg0.N = fun i => assignRow m c (i 0) := by
  refine (dats m 0 c).arrAt_eq_of_covers 3 _ (by decide +kernel) fun t hf y => ?_
  have idx : ∀ t : Fin cfg0.N, win0_3.index t = ![t.val, 0] := (by decide +kernel : ∀ t : Fin grid0.N, _)
  have e : ((win0_3.blk t).view.emb y 0 : Fin 16384).val = t.val * 4096 + (y 0).val := by blk_simp [idx t]
  obtain ⟨hp, hq⟩ := point_place (t := t) (r := y 0) e
  blk_simp
  rw [after0_3, outs_assign]
  unfold assignRow
  rw [hp, hq]
  exact congrArg _ (col_eq y)

/-- The reshape of a column to a vector keeps the rows. -/
theorem reshape_col {α : Type} (f : Fin 16384 → α) (h : S16384x1.ShapeCasts S16384) :
    shapeCast S16384 (fun i : S16384x1.Idx => f (i 0)) h = fun i : S16384.Idx => f (i 0) := by
  funext i
  pointwise

/-- The first result: the distances' array, reshaped. -/
theorem tail_dist (c : Dev nD) : Pipeline.afterTail₀ cfgs (dats m) 0 (V0 m) [hostOps1] c main_v1
    = (fun i : S16384.Idx => distRow m c (i 0) : Buf (Elt Ideal) ((c : Thread nD τ).loc main_v1)) := by
  show StableHlo.after hostOps1 (Pipeline.withArrays spec0 c (V0 m c) fun w => (dats m 0 c).arrAt w cfg0.N)
    (Proc.devRef .tc main_v1) = _
  have h : Pipeline.withArrays spec0 c (V0 m c) (fun w => (dats m 0 c).arrAt w cfg0.N) (Proc.devRef .tc main_v0_0)
      = (fun i : S16384x1.Idx => distRow m c (i 0)) :=
    (Pipeline.withArrays_arr spec0 (by decide) c (V0 m c) (fun w => (dats m 0 c).arrAt w cfg0.N) 2).trans (dist_arr m c)
  entry_read
  rw [h]
  exact reshape_col _ _

/-- The second result: the assignments' array, reshaped. -/
theorem tail_assign (c : Dev nD) : Pipeline.afterTail₀ cfgs (dats m) 0 (V0 m) [hostOps1] c main_v2
    = (fun i : S16384.Idx => assignRow m c (i 0) : Buf (Elt Ideal) ((c : Thread nD τ).loc main_v2)) := by
  show StableHlo.after hostOps1 (Pipeline.withArrays spec0 c (V0 m c) fun w => (dats m 0 c).arrAt w cfg0.N)
    (Proc.devRef .tc main_v2) = _
  have h : Pipeline.withArrays spec0 c (V0 m c) (fun w => (dats m 0 c).arrAt w cfg0.N) (Proc.devRef .tc main_v0_1)
      = (fun i : S16384x1.Idx => assignRow m c (i 0)) :=
    (Pipeline.withArrays_arr spec0 (by decide) c (V0 m c) (fun w => (dats m 0 c).arrAt w cfg0.N) 3).trans (assign_arr m c)
  entry_read
  rw [h]
  exact reshape_col _ _

/-- The run: both results row by row, the arguments unchanged. -/
theorem run : θ_run defs (onTc (τ := τ) (main (F := Ideal))) ⟨m, fun _ => 0, ρ⟩ fun r => ∀ c : Dev nD,
      r.2.mem ((c : Thread nD τ).loc main_v1) = (fun i : S16384.Idx => distRow m c (i 0))
      ∧ r.2.mem ((c : Thread nD τ).loc main_v2) = (fun i : S16384.Idx => assignRow m c (i 0))
      ∧ r.2.mem ((c : Thread nD τ).loc main_arg0) = m ((c : Thread nD τ).loc main_arg0)
      ∧ r.2.mem ((c : Thread nD τ).loc main_arg1) = m ((c : Thread nD τ).loc main_arg1) := by
  run_from run_main m ρ
  · exact tail_dist m c
  · exact tail_assign m c

section Real

variable {m} {z : Fin 16384 → Fin 64 → ℝ} {k : Fin 1024 → Fin 64 → ℝ} {c : Dev nD} {n : Fin 16384} {a : Fin 1024}

/-- The assignment of a row of reals is its first nearest centre. -/
theorem assignRow_eq (hz : ∀ n j, m ((c : Thread nD τ).loc main_arg0) (ix2 n j) = ((z n j : ℝ) : EReal))
    (hk : ∀ i j, m ((c : Thread nD τ).loc main_arg1) (ix2 i j) = ((k i j : ℝ) : EReal))
    (ha : FirstMin (fun i => score (z n) (k i)) a) : assignRow m c n = BitVec.ofNat 32 a.val :=
  assignBlock_eq (pay4_eq (fun j => (iblk0 m c n j).trans (hz n j)) hk (pay3_eq hk)) ha

/-- The distance of a row of reals to its nearest centre, where its nearest centres have one norm. -/
theorem distRow_eq (hz : ∀ n j, m ((c : Thread nD τ).loc main_arg0) (ix2 n j) = ((z n j : ℝ) : EReal))
    (hk : ∀ i j, m ((c : Thread nD τ).loc main_arg1) (ix2 i j) = ((k i j : ℝ) : EReal))
    (ha : FirstMin (fun i => score (z n) (k i)) a)
    (hu : ∀ i, score (z n) (k i) = score (z n) (k a) → normSq (k i) = normSq (k a)) :
    distRow m c n = ((cosDist (z n) (k a) : ℝ) : EReal) :=
  have hx := fun j => (iblk0 m c n j).trans (hz n j)
  have h4 := pay4_eq hx hk (pay3_eq hk)
  distBlock_eq hx (pay5_eq h4 ha) (pay8_eq h4 (pay3_eq hk) ha hu)

end Real

end Cert.KernelIdeal.RowValue

end
-- ==== Proof.RefRun.lean ====
/- The reference's run: its two results as terms of its arguments, cut at the squared distances, the assignments and
   the assigned centres. -/
module

public import proofs.«01_k».proof.Defs
public import proofs.«01_k».proof.Proof.Gen.ReferenceIdeal
public import Idealize.ShloMosaic.Lib.Claim
public import Idealize.ShloMosaic.Lib.Tactic.CleanTypes
public import Idealize.ShloMosaic.Lib.Quiescent
public import Idealize.ShloMosaic.Lib.StableHlo.RunHlo

@[expose] public section

noncomputable section

open Idealize.ShloMosaic Idealize.ShloMosaic.TcCoe Idealize.SL.Sem

namespace Cert.ReferenceIdeal.RowValue

open Cert.ReferenceIdeal Cert.ReferenceIdeal.Gen

/-- The squared distances of the rows to the centres. -/
def sqDist (x : FVec Ideal S16384x64 .f32) (C : FVec Ideal S1024x64 .f32) : FVec Ideal S16384x1024 .f32 :=
  addf
    (subf
      (broadcastInDim S16384x1024 ![0, 1] bcast_S16384x1_S16384x1024_0_1
        (broadcastInDim S16384x1 ![0] bcast_S16384_S16384x1_0
          (Host.reduceAdd (mulf x x) (constant S_ .f32 0x00000000#32) reducesTo_S16384x64_S16384_d1 h_S_)))
      (mulf (broadcastInDim S16384x1024 ![] bcast_S_S16384x1024 (constant S_ .f32 0x40000000#32))
        (Host.dotGeneral dot_S16384x64_S64x1024_S16384x1024_1_0_0_1_n_n none x
          (transpose S64x1024 [1, 0] C transposes_S1024x64_S64x1024_1_0))))
    (broadcastInDim S16384x1024 ![0, 1] bcast_S1x1024_S16384x1024_0_1
      (broadcastInDim S1x1024 ![1] bcast_S1024_S1x1024_1
        (Host.reduceAdd (mulf C C) (constant S_ .f32 0x00000000#32) reducesTo_S1024x64_S1024_d1 h_S_)))

/-- The least value of each row, with its index. -/
def leastPair (d : FVec Ideal S16384x1024 .f32) : S16384.Idx → Ideal .f32 × BitVec 32 := fun j =>
  Host.argReduce reducer_argmin_f32_i32 d (iotaInDim S16384x1024 32 1) (constant S_ .f32 0x7F800000#32)
    (constantI S_ 32 0#32) reducesTo_S16384x1024_S16384_d1 h_S_ j

/-- The index of the least value of each row. -/
def leastIndex (d : FVec Ideal S16384x1024 .f32) : IVec S16384 32 := fun j => (leastPair d j).2

/-- The indices that the centres are taken at: a negative one counts from the end. -/
def takeIndex (a : IVec S16384 32) : IVec S16384x1 32 :=
  broadcastInDim S16384x1 ![0] bcast_S16384_S16384x1_0
    (select (cmpi .slt a (broadcastInDim S16384 ![] bcast_S_S16384 (constantI S_ 32 0#32)))
      (addi a (broadcastInDim S16384 ![] bcast_S_S16384 (constantI S_ 32 1024#32))) a)

/-- Whether an index lies among the centres. -/
def takeMask (b : IVec S16384x1 32) : IVec S16384 1 :=
  Host.reduce IntOp.andi
    (andi (cmpi .sge b (broadcastInDim S16384x1 ![] bcast_S_S16384x1 (constantI S_ 32 0#32)))
      (cmpi .sle b
        (broadcastInDim S16384x1 ![0, 1] bcast_S1x1_S16384x1_0_1
          (broadcastInDim S1x1 ![1] bcast_S1_S1x1_1 (constantI S1 32 1023#32)))))
    (constantI S_ 1 1#1) reducesTo_S16384x1_S16384_d1 h_S_

/-- The centres at the indices. -/
def taken (C : FVec Ideal S1024x64 .f32) (a : IVec S16384 32) : FVec Ideal S16384x64 .f32 :=
  select (broadcastInDim S16384x64 ![0] bcast_S16384_S16384x64_0 (takeMask (takeIndex a)))
    (Host.gather gather_S1024x64_S16384x1_S16384x64_1_0_n_n_0_1_164 C (takeIndex a))
    (broadcastInDim S16384x64 ![] bcast_S_S16384x64 (constant S_ .f32 0x7FC00000#32))

/-- The norms of the rows, at least the floor. -/
def norms (x : FVec Ideal S16384x64 .f32) : FVec Ideal S16384 .f32 :=
  maximumf
    (Host.sqrt (Host.reduceAdd (mulf x x) (constant S_ .f32 0x00000000#32) reducesTo_S16384x64_S16384_d1 h_S_))
    (broadcastInDim S16384 ![] bcast_S_S16384 (constant S_ .f32 0x322BCC77#32))

/-- The cosine distances of the rows of two arrays. -/
def cosDists (x y : FVec Ideal S16384x64 .f32) : FVec Ideal S16384 .f32 :=
  subf (broadcastInDim S16384 ![] bcast_S_S16384 (constant S_ .f32 0x3F800000#32))
    (Host.divf (Host.reduceAdd (mulf x y) (constant S_ .f32 0x00000000#32) reducesTo_S16384x64_S16384_d1 h_S_)
      (mulf (norms x) (norms y)))

variable (m : (ℓ : Loc nD τ sig) → Buf (Elt Ideal) ℓ) (ρ : Dev nD → PrngReg)

/-- The assignments of the reference. -/
def assigned (c : Dev nD) : IVec S16384 32 :=
  leastIndex (sqDist (m ((c : Thread nD τ).loc main_arg0)) (m ((c : Thread nD τ).loc main_arg1)))

/-- The distances of the reference. -/
def distances (c : Dev nD) : FVec Ideal S16384 .f32 :=
  cosDists (m ((c : Thread nD τ).loc main_arg0)) (taken (m ((c : Thread nD τ).loc main_arg1)) (assigned m c))

set_option maxRecDepth 20000 in
/-- The run: both results, the arguments unchanged. -/
theorem run : θ_run defs (onTc (τ := τ) (main (F := Ideal))) ⟨m, fun _ => 0, ρ⟩ fun r => ∀ c : Dev nD,
      r.2.mem ((c : Thread nD τ).loc main_v27) = distances m c
      ∧ r.2.mem ((c : Thread nD τ).loc main_v14) = assigned m c
      ∧ r.2.mem ((c : Thread nD τ).loc main_arg0) = m ((c : Thread nD τ).loc main_arg0)
      ∧ r.2.mem ((c : Thread nD τ).loc main_arg1) = m ((c : Thread nD τ).loc main_arg1) := by
  hlo_run
  · clean_types
    simp -implicitDefEqProofs only [StableHlo.TRef.toBuf, StableHlo.TRef.ofBuf, cast_cast, cast_eq]
    rfl
  · rfl

/-- The frame: the arguments unchanged; the program has no semaphore. -/
theorem frame : θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)) ∧ r.2.sem = fun _ => 0 :=
  θ_run_mono (run m ρ) fun r h => ⟨fun c => (h c).2.2, sem_eq_zero_of_no_sems rfl r.2⟩

end Cert.ReferenceIdeal.RowValue

end
-- ==== Proof.LeastIndex.lean ====
/- The reference's arg-min along a row of real numbers is the first index of the least. -/
module

public import proofs.«01_k».proof.Proof.RefRun
public import proofs.«01_k».proof.Proof.Nearest
public import Idealize.ShloMosaic.Lib.Pointwise
public import Idealize.ShloMosaic.PureOps.Ideal.Laws

@[expose] public section

noncomputable section

open Idealize.ShloMosaic Idealize.ShloMosaic.TcCoe Idealize.SL.Sem

namespace Cert.ReferenceIdeal.RowValue

open Cert.ReferenceIdeal Cert.ReferenceIdeal.Gen Cert.Nearest

/-- The order of the arg-min's pairs: by value, then by index. -/
def PairLe (p q : EReal × BitVec 32) : Prop := p.1 < q.1 ∨ p.1 = q.1 ∧ p.2.toInt ≤ q.2.toInt

/-- A pair is not above itself. -/
theorem PairLe.refl (p : EReal × BitVec 32) : PairLe p p := Or.inr ⟨rfl, le_refl _⟩

/-- The order is transitive. -/
theorem PairLe.trans {p q r : EReal × BitVec 32} (h : PairLe p q) (h' : PairLe q r) : PairLe p r := by
  rcases h with h | ⟨h, i⟩ <;> rcases h' with h' | ⟨h', i'⟩
  · exact Or.inl (h.trans h')
  · exact Or.inl (h' ▸ h)
  · exact Or.inl (h ▸ h')
  · exact Or.inr ⟨h.trans h', i.trans i'⟩

/-- The comparisons of the reduction's body. -/
theorem bits_or (p q r : Prop) [Decidable p] [Decidable q] [Decidable r] :
    IntOp.ori (IntOp.ori (BitVec.ofBool (decide p)) (BitVec.ofBool (decide False)))
      (IntOp.andi (BitVec.ofBool (decide q)) (BitVec.ofBool (decide r))) = BitVec.ofBool (decide (p ∨ q ∧ r)) := by
  by_cases hp : p <;> by_cases hq : q <;> by_cases hr : r <;> simp only [hp, hq, hr] <;> decide

/-- The selected value, equal values being one. -/
theorem bits_value (p : Prop) [Decidable p] :
    IntOp.ori (BitVec.ofBool (decide p)) (BitVec.ofBool (decide False)) = BitVec.ofBool (decide p) := by
  by_cases hp : p <;> simp only [hp] <;> decide

/-- The reduction's body keeps the lesser pair. -/
theorem reducer_eq (p q : EReal × BitVec 32) :
    reducer_argmin_f32_i32 (F := Ideal) p q = if p.1 < q.1 ∨ p.1 = q.1 ∧ p.2.toInt < q.2.toInt then p else q := by
  obtain ⟨x, i⟩ := p
  obtain ⟨y, j⟩ := q
  have e : reducer_argmin_f32_i32 (F := Ideal) (x, i) (y, j)
      = (Scalar.select (IntOp.ori (BitVec.ofBool (decide (x < y))) (BitVec.ofBool (decide False))) x y,
        Scalar.select (IntOp.ori (IntOp.ori (BitVec.ofBool (decide (x < y))) (BitVec.ofBool (decide False)))
          (IntOp.andi (BitVec.ofBool (decide (x = y))) (BitVec.ofBool (decide (i.toInt < j.toInt))))) i j) := by
    have hne : (FloatOps.cmpf (F := Ideal) (φ := .f32) .une x x) = BitVec.ofBool (decide False) := by
      show BitVec.ofBool (decide (x ≠ x)) = _
      simp
    have hlt : IntOp.cmpi .slt i j = BitVec.ofBool (decide (i.toInt < j.toInt)) := by
      simp [IntOp.cmpi, BitVec.slt]
    unfold reducer_argmin_f32_i32
    dsimp only
    rw [hne, hlt]
    rfl
  rw [e, bits_or, bits_value, select_ofBool, select_ofBool]
  by_cases h : x < y
  · simp [h]
  · by_cases h' : x = y ∧ i.toInt < j.toInt
    · rw [if_neg h, if_pos (Or.inr h'), if_pos (Or.inr h'), h'.1]
    · rw [if_neg h, if_neg (not_or.2 ⟨h, h'⟩), if_neg (not_or.2 ⟨h, h'⟩)]

/-- A fold of the body: one of the pairs, and no pair is less. -/
theorem foldl_reducer (L : List (EReal × BitVec 32)) (p : EReal × BitVec 32) :
    (L.foldl (reducer_argmin_f32_i32 (F := Ideal)) p = p ∨ L.foldl (reducer_argmin_f32_i32 (F := Ideal)) p ∈ L)
      ∧ PairLe (L.foldl (reducer_argmin_f32_i32 (F := Ideal)) p) p
      ∧ ∀ q ∈ L, PairLe (L.foldl (reducer_argmin_f32_i32 (F := Ideal)) p) q := by
  induction L generalizing p with
  | nil => exact ⟨Or.inl rfl, .refl p, fun q h => absurd h (List.not_mem_nil)⟩
  | cons q L ih =>
    rw [List.foldl_cons]
    have hr : (reducer_argmin_f32_i32 (F := Ideal) p q = p ∨ reducer_argmin_f32_i32 (F := Ideal) p q = q)
        ∧ PairLe (reducer_argmin_f32_i32 (F := Ideal) p q) p ∧ PairLe (reducer_argmin_f32_i32 (F := Ideal) p q) q := by
      rw [reducer_eq]
      split
      · rename_i h
        exact ⟨Or.inl rfl, .refl p, h.imp id fun h => ⟨h.1, h.2.le⟩⟩
      · rename_i h
        rw [not_or, not_and, not_lt, not_lt] at h
        refine ⟨Or.inr rfl, ?_, .refl q⟩
        rcases h.1.lt_or_eq with h' | h'
        · exact Or.inl h'
        · exact Or.inr ⟨h', h.2 h'.symm⟩
    obtain ⟨hm, hp, hq⟩ := ih (reducer_argmin_f32_i32 (F := Ideal) p q)
    refine ⟨?_, hp.trans hr.2.1, ?_⟩
    · rcases hm with hm | hm
      · rw [hm]
        rcases hr.1 with h | h
        · exact Or.inl h
        · rw [h]
          exact Or.inr List.mem_cons_self
      · exact Or.inr (List.mem_cons_of_mem _ hm)
    · intro r hr'
      rcases List.mem_cons.1 hr' with rfl | h
      · exact hp.trans hr.2.2
      · exact hq r h

/-- The pairs of a row. -/
theorem mem_row (d : FVec Ideal S16384x1024 .f32) (n : Fin 16384) (p : EReal × BitVec 32) :
    p ∈ Host.argReduceFiber d (iotaInDim S16384x1024 32 1) reducesTo_S16384x1024_S16384_d1 (ix1 n)
      ↔ ∃ k : Fin 1024, p = (d (ix2 n k), BitVec.ofNat 32 k.val) := by
  have hd : ∀ i : S16384x1024.Idx, reducesTo_S16384x1024_S16384_d1.drop i = ix1 (i 0 : Fin 16384) := fun i => by
    funext b
    match b with
    | ⟨0, _⟩ => exact Fin.ext (Shape.ReducesTo.drop_apply_val_of_eq reducesTo_S16384x1024_S16384_d1 i 0 0)
  have hi : ∀ i : S16384x1024.Idx, i = ix2 (i 0) (i 1) := fun i => by
    funext b
    match b with
    | ⟨0, _⟩ => rfl
    | ⟨1, _⟩ => rfl
  unfold Host.argReduceFiber
  simp only [List.mem_map, List.mem_filter, List.mem_finRange, true_and, decide_eq_true_eq, hd]
  constructor
  · rintro ⟨t, ht, rfl⟩
    refine ⟨S16384x1024.rowMajor.symm t 1, ?_⟩
    have h0 : S16384x1024.rowMajor.symm t 0 = n := congrFun ht 0
    refine Prod.ext (congrArg d ?_) rfl
    rw [← h0]
    exact hi _
  · rintro ⟨k, rfl⟩
    refine ⟨S16384x1024.rowMajor (ix2 n k), ?_, ?_⟩
    · rw [Equiv.symm_apply_apply]; rfl
    · rw [Equiv.symm_apply_apply]; rfl

/-- The fold over a row's pairs ends at the first index of the least. -/
theorem foldl_row {L : List (EReal × BitVec 32)} {p : EReal × BitVec 32} {g : Fin 1024 → ℝ} {a : Fin 1024} (hp : p.1 = ⊤)
    (hL : ∀ q, q ∈ L ↔ ∃ k : Fin 1024, q = (((g k : ℝ) : EReal), BitVec.ofNat 32 k.val)) (ha : FirstMin g a) :
    (L.foldl (reducer_argmin_f32_i32 (F := Ideal)) p).2 = BitVec.ofNat 32 a.val := by
  obtain ⟨hm, -, hle⟩ := foldl_reducer L p
  generalize L.foldl (reducer_argmin_f32_i32 (F := Ideal)) p = R at hm hle ⊢
  have hla := hle _ ((hL _).2 ⟨a, rfl⟩)
  rcases hm with rfl | hm
  · rcases hla with h | ⟨h, -⟩
    · rw [hp] at h
      exact absurd h not_top_lt
    · exact absurd (h.symm.trans hp) (EReal.coe_ne_top _)
  · obtain ⟨k, rfl⟩ := (hL _).1 hm
    unfold PairLe at hla
    simp only [index_toInt, EReal.coe_lt_coe_iff, EReal.coe_eq_coe_iff] at hla
    rcases hla with h | ⟨h, h'⟩
    · exact absurd h (ha.1 k).not_gt
    · have : k = a := by
        by_contra hne
        have hlt : k < a := lt_of_le_of_ne (by exact_mod_cast h') hne
        exact absurd h (ha.2 k hlt).ne'
      rw [this]

/-- The constant that the fold starts from. -/
theorem start_top (i : S_.Idx) : constant (F := Ideal) S_ .f32 0x7F800000#32 i = (⊤ : EReal) := by
  rw [constant_apply]
  exact ofBits_top

/-- An arg-min at an index is the fold of its body over that index's pairs. -/
theorem argReduce_fold {s t u : Shape} {axes : List (Fin s.rank)} {β : Type}
    (f : Ideal .f32 × β → Ideal .f32 × β → Ideal .f32 × β) (x : FVec Ideal s .f32) (y : s.Idx → β) (ix : u.Idx → Ideal .f32)
    (iy : u.Idx → β) (h : s.ReducesTo axes t) (hu : 0 < u.numel) (j : t.Idx) :
    Host.argReduce f x y ix iy h hu j
      = (Host.argReduceFiber x y h j).foldl f (ix (Shape.Idx.first hu), iy (Shape.Idx.first hu)) := by
  rw [Ideal.argReduce_eq_reduce2, Host.reduce2_eq_foldl_fiber]

/-- The least of a row with its index, as a fold. -/
theorem leastPair_fold (d : FVec Ideal S16384x1024 .f32) (j : S16384.Idx) :
    leastPair d j
      = (Host.argReduceFiber d (iotaInDim S16384x1024 32 1) reducesTo_S16384x1024_S16384_d1 j).foldl
        (reducer_argmin_f32_i32 (F := Ideal))
        (constant S_ .f32 0x7F800000#32 (Shape.Idx.first h_S_), constantI S_ 32 0#32 (Shape.Idx.first h_S_)) :=
  argReduce_fold _ _ _ _ _ _ _ _

/-- `leastIndex` in its definition's words. -/
theorem leastIndex_def (d : FVec Ideal S16384x1024 .f32) : leastIndex d = fun j => (leastPair d j).2 := rfl

/-- The index of the least of a row of reals. -/
theorem leastIndex_eq {d : FVec Ideal S16384x1024 .f32} {n : Fin 16384} {g : Fin 1024 → ℝ} {a : Fin 1024}
    (hd : ∀ k, d (ix2 n k) = ((g k : ℝ) : EReal)) (ha : FirstMin g a) :
    leastIndex d (ix1 n) = BitVec.ofNat 32 a.val := by
  have hL : ∀ q, q ∈ Host.argReduceFiber d (iotaInDim S16384x1024 32 1) reducesTo_S16384x1024_S16384_d1 (ix1 n)
      ↔ ∃ k : Fin 1024, q = (((g k : ℝ) : EReal), BitVec.ofNat 32 k.val) := fun q => by
    rw [mem_row]
    simp only [hd]
  have h := congrArg Prod.snd (leastPair_fold d (ix1 n))
  exact (congrFun (leastIndex_def d) (ix1 n)).trans (h.trans (foldl_row (start_top (Shape.Idx.first h_S_)) hL ha))

end Cert.ReferenceIdeal.RowValue

end
-- ==== Proof.RefRow.lean ====
/- The reference's two results at a row, when the arguments are real numbers. -/
module

public import proofs.«01_k».proof.Proof.LeastIndex

@[expose] public section

noncomputable section

open Idealize.ShloMosaic Idealize.ShloMosaic.TcCoe Idealize.SL.Sem

namespace Cert.ReferenceIdeal.RowValue

open Cert.ReferenceIdeal Cert.ReferenceIdeal.Gen Cert.Nearest

variable {x y : FVec Ideal S16384x64 .f32} {C : FVec Ideal S1024x64 .f32}
variable {z : Fin 16384 → Fin 64 → ℝ} {w : Fin 64 → ℝ} {k : Fin 1024 → Fin 64 → ℝ} {n : Fin 16384} {a : Fin 1024}

/-- The squared distance of a row to a centre. -/
theorem sqDist_eq (hx : ∀ n j, x (ix2 n j) = ((z n j : ℝ) : EReal)) (hC : ∀ i j, C (ix2 i j) = ((k i j : ℝ) : EReal))
    (n : Fin 16384) (i : Fin 1024) :
    sqDist x C (ix2 n i) = ((score (z n) (k i) + normSq (z n) : ℝ) : EReal) := by
  unfold sqDist
  pointwise
  simp only [hx, hC]
  rw [coe_dot, coe_dot, coe_dot, ofBits_two, score_eq]
  rw [← EReal.coe_mul, ← EReal.coe_sub, ← EReal.coe_add]
  refine congrArg _ ?_
  unfold normSq
  ring

/-- An index of a centre is not negative. -/
theorem index_not_neg (a : Fin 1024) : IntOp.cmpi .slt (BitVec.ofNat 32 a.val) 0#32 = 0#1 := by
  have h : ¬ (a.val : ℤ) < 0 := by omega
  simp only [IntOp.cmpi, BitVec.slt, index_toInt, BitVec.toInt_zero, h, decide_false]
  rfl

/-- An index of a centre is at least zero. -/
theorem index_nonneg (a : Fin 1024) : IntOp.cmpi .sge (BitVec.ofNat 32 a.val) 0#32 = 1#1 := by
  simp [IntOp.cmpi, BitVec.sle, index_toInt]

/-- An index of a centre is at most the last one. -/
theorem index_le (a : Fin 1024) : IntOp.cmpi .sle (BitVec.ofNat 32 a.val) 1023#32 = 1#1 := by
  have hk : (a.val : ℤ) ≤ 1023 := by have := a.isLt; omega
  have e : (1023#32 : BitVec 32).toInt = 1023 := rfl
  simp [IntOp.cmpi, BitVec.sle, index_toInt, e, hk]

/-- A row of a gather of rows, at an index in range. -/
theorem gather_row {b : IVec S16384x1 32} (hb : b (ix2 n 0) = BitVec.ofNat 32 a.val) (j : Fin 64) :
    Host.gather gather_S1024x64_S16384x1_S16384x64_1_0_n_n_0_1_164 C b (ix2 n j) = C (ix2 a j) := by
  have ha : (BitVec.ofNat 32 a.val).toInt.toNat = a.val := by rw [index_toInt, Int.toNat_natCast]
  unfold Host.gather
  congr 1
  funext c
  refine Fin.ext ?_
  show GatherDims.start _ (ix2 n j) b c + GatherDims.batchCoord _ (ix2 n j) c + GatherDims.offCoord _ (ix2 n j) c = _
  have h01 : c = 0 ∨ c = 1 := by
    match c with
    | ⟨0, _⟩ => exact Or.inl rfl
    | ⟨1, _⟩ => exact Or.inr rfl
  rcases h01 with rfl | rfl
  · rw [GatherDims.batchCoord_eq_zero _ _ _ (List.not_mem_nil),
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S1024x64_S16384x1_S16384x64_1_0_n_n_0_1_164.startIndexMap from List.mem_singleton.mpr rfl)]
    have hsi : gather_S1024x64_S16384x1_S16384x64_1_0_n_n_0_1_164.siIdx (ix2 n j)
        ⟨List.idxOf (0 : Fin 2) gather_S1024x64_S16384x1_S16384x64_1_0_n_n_0_1_164.startIndexMap,
          List.idxOf_lt_length_iff.2 (List.mem_singleton.mpr rfl)⟩ = ix2 n 0 := by
      funext b; refine Fin.ext ?_
      match b with
      | ⟨0, _⟩ => rfl
      | ⟨1, _⟩ => rfl
    rw [hsi, hb, ha]
    exact min_eq_left (show a.val ≤ 1023 by omega)
  · rw [GatherDims.batchCoord_eq_zero _ _ _ (List.not_mem_nil)]
    have hs : gather_S1024x64_S16384x1_S16384x64_1_0_n_n_0_1_164.start (ix2 n j) b 1 = 0 := by
      unfold GatherDims.start
      rw [dif_neg (by decide)]
    rw [hs]
    unfold GatherDims.offCoord
    rw [dif_pos (by decide)]
    simp only [Nat.zero_add]
    rfl

/-- The taken index at a row. -/
theorem takeIndex_eq {b : IVec S16384 32} (hb : b (ix1 n) = BitVec.ofNat 32 a.val) :
    takeIndex b (ix2 n 0) = BitVec.ofNat 32 a.val := by
  unfold takeIndex
  pointwise
  rw [hb, index_not_neg]
  rfl

/-- The index lies among the centres. -/
theorem takeMask_eq {b : IVec S16384x1 32} (hb : b (ix2 n 0) = BitVec.ofNat 32 a.val) :
    takeMask b (ix1 n) = 1#1 := by
  unfold takeMask
  pointwise
  rw [Finset.univ_unique, Finset.fold_singleton]
  show IntOp.andi (IntOp.andi (IntOp.cmpi .sge (b (ix2 n 0)) 0#32) (IntOp.cmpi .sle (b (ix2 n 0)) 1023#32)) 1#1 = 1#1
  rw [hb, index_nonneg, index_le]
  rfl

/-- The taken centre. -/
theorem taken_eq (hC : ∀ i j, C (ix2 i j) = ((k i j : ℝ) : EReal)) {b : IVec S16384 32}
    (hb : b (ix1 n) = BitVec.ofNat 32 a.val) (j : Fin 64) : taken C b (ix2 n j) = ((k a j : ℝ) : EReal) := by
  have hm := takeMask_eq (takeIndex_eq hb)
  have hg := gather_row (C := C) (takeIndex_eq hb) j
  unfold taken
  generalize takeMask (takeIndex b) = u at hm ⊢
  generalize Host.gather gather_S1024x64_S16384x1_S16384x64_1_0_n_n_0_1_164 C (takeIndex b) = v at hg ⊢
  pointwise
  rw [hm, hg, hC]
  rfl

/-- The norm of a row, at least the floor. -/
theorem norms_eq (hx : ∀ j, x (ix2 n j) = ((w j : ℝ) : EReal)) :
    norms x (ix1 n) = max (Ideal.sqrt ((normSq w : ℝ) : EReal)) (eps : EReal) := by
  unfold norms
  pointwise
  simp only [hx]
  rw [coe_dot, ofBits_eps, normSq]

/-- The cosine distance of two rows. -/
theorem cosDists_eq (hx : ∀ j, x (ix2 n j) = ((w j : ℝ) : EReal)) {v : Fin 64 → ℝ}
    (hy : ∀ j, y (ix2 n j) = ((v j : ℝ) : EReal)) : cosDists x y (ix1 n) = ((cosDist w v : ℝ) : EReal) := by
  have hnx := norms_eq hx
  have hny := norms_eq hy
  unfold cosDists
  generalize norms x = p at hnx ⊢
  generalize norms y = q at hny ⊢
  pointwise
  simp only [hx, hy]
  rw [hnx, hny, coe_dot]
  exact cosDist_eq_div w v

section Run

variable {m : (ℓ : Loc nD τ sig) → Buf (Elt Ideal) ℓ} {c : Dev nD}

/-- The reference's assignment of a row of reals is its first nearest centre. -/
theorem assigned_eq (hz : ∀ n j, m ((c : Thread nD τ).loc main_arg0) (ix2 n j) = ((z n j : ℝ) : EReal))
    (hk : ∀ i j, m ((c : Thread nD τ).loc main_arg1) (ix2 i j) = ((k i j : ℝ) : EReal))
    (ha : FirstMin (fun i => score (z n) (k i)) a) : assigned m c (ix1 n) = BitVec.ofNat 32 a.val :=
  leastIndex_eq (fun i => sqDist_eq hz hk n i) (ha.add (normSq (z n)) fun _ => rfl)

/-- The reference's distance of a row of reals is the one to that centre. -/
theorem distances_eq (hz : ∀ n j, m ((c : Thread nD τ).loc main_arg0) (ix2 n j) = ((z n j : ℝ) : EReal))
    (hk : ∀ i j, m ((c : Thread nD τ).loc main_arg1) (ix2 i j) = ((k i j : ℝ) : EReal))
    (ha : FirstMin (fun i => score (z n) (k i)) a) :
    distances m c (ix1 n) = ((cosDist (z n) (k a) : ℝ) : EReal) :=
  cosDists_eq (hz n) (taken_eq hk (assigned_eq hz hk ha))

end Run

end Cert.ReferenceIdeal.RowValue

end
-- ==== Proof.Settled.lean ====
/- What the preconditions and the mask say: the arguments are real numbers, and the nearest centres of a row have one
   norm. -/
module

public import proofs.«01_k».proof.Proof.RefRow
public import proofs.«01_k».proof.Proof.Gen.Pre_finite
public import proofs.«01_k».proof.Proof.Gen.Pre_finite_settled
public import proofs.«01_k».proof.Proof.Gen.On_settled
public import Idealize.ShloMosaic.Lib.ReduceAll

@[expose] public section

noncomputable section

open Idealize.ShloMosaic Idealize.ShloMosaic.TcCoe Idealize.SL.Sem

namespace Cert.Settled

open Cert.On_settled Cert.On_settled.Gen Cert.Nearest

/-! ## Real arguments -/

/-- An extended real of absolute value below infinity is a real number. -/
theorem exists_real {v : EReal} (h : FloatOps.cmpf (F := Ideal) (φ := .f32) .olt (max v (-v)) (Ideal.ofBits .f32 0x7F800000#32) = 1#1) :
    ∃ r : ℝ, v = (r : EReal) := by
  rw [ofBits_top] at h
  have h' : BitVec.ofBool (decide (max v (-v) < ⊤)) = 1#1 := h
  by_cases hlt : max v (-v) < ⊤
  · rw [max_lt_iff] at hlt
    induction v with
    | bot => exact absurd hlt.2 (by simp)
    | top => exact absurd hlt.1 (by simp)
    | coe r => exact ⟨r, rfl⟩
  · simp [hlt] at h'

/-- The test for a number below infinity at an index. -/
theorem finite_at {s : Shape} (x : FVec Ideal s .f32) (h : S_.BroadcastsInDim s ![]) (i : s.Idx) :
    cmpf .olt (Host.absf x) (broadcastInDim s ![] h (constant S_ .f32 0x7F800000#32)) i
      = FloatOps.cmpf (F := Ideal) (φ := .f32) .olt (max (x i) (-(x i))) (Ideal.ofBits .f32 0x7F800000#32) := by
  rfl

/-- A conjunction of two bits is set where both are. -/
theorem andi_one {u v : BitVec 1} (h : IntOp.andi u v = 1#1) : u = 1#1 ∧ v = 1#1 := by
  revert u v
  decide

/-- Under the precondition `finite` every argument is real. -/
theorem finite_real {x : FVec Ideal S16384x64 .f32} {C : FVec Ideal S1024x64 .f32}
    (h : Cert.Pre_finite.fn (F := Ideal) x C = fun _ => 1#1) :
    (∀ i, ∃ r : ℝ, x i = (r : EReal)) ∧ ∀ i, ∃ r : ℝ, C i = (r : EReal) := by
  have h0 := congrFun h (Shape.Idx.first h_S_)
  dsimp only [Cert.Pre_finite.fn] at h0
  obtain ⟨hx, hC⟩ := andi_one h0
  exact ⟨fun i => exists_real ((finite_at x _ i).symm.trans (Host.reduce_andi_all _ _ _ _ _ hx i)),
    fun i => exists_real ((finite_at C _ i).symm.trans (Host.reduce_andi_all _ _ _ _ _ hC i))⟩

/-! ## Settled rows -/

/-- The least of each row. -/
def least (d : FVec Ideal S16384x1024 .f32) : FVec Ideal S16384 .f32 :=
  Host.reduce FloatOps.minimumf d (constant S_ .f32 0x7F800000#32) reducesTo_S16384x1024_S16384_d1 h_S_

/-- The greatest of each row. -/
def greatest (d : FVec Ideal S16384x1024 .f32) : FVec Ideal S16384 .f32 :=
  Host.reduce FloatOps.maximumf d (constant S_ .f32 0xFF800000#32) reducesTo_S16384x1024_S16384_d1 h_S_

/-- Which centres are a row's nearest ones. -/
def near (d : FVec Ideal S16384x1024 .f32) (t : FVec Ideal S16384 .f32) : IVec S16384x1024 1 :=
  cmpf .oeq d (broadcastInDim S16384x1024 ![0, 1] bcast_S16384x1_S16384x1024_0_1
    (broadcastInDim S16384x1 ![0] bcast_S16384_S16384x1_0 t))

/-- The squared norms of the chosen centres, one constant elsewhere. -/
def chosen (p : IVec S16384x1024 1) (s : FVec Ideal S1024 .f32) (b : BitVec 32) : FVec Ideal S16384x1024 .f32 :=
  select p
    (broadcastInDim S16384x1024 ![0, 1] bcast_S1x1024_S16384x1024_0_1 (broadcastInDim S1x1024 ![1] bcast_S1024_S1x1024_1 s))
    (broadcastInDim S16384x1024 ![] bcast_S_S16384x1024 (constant S_ .f32 b))

/-- Whether the greatest of one array's rows is the least of another's. -/
def extremes (u v : FVec Ideal S16384x1024 .f32) : IVec S16384 1 :=
  cmpf .oeq (greatest u) (least v)

/-- The rows whose nearest centres have one norm, from the squared distances and the squared norms of the centres. -/
def rows (d : FVec Ideal S16384x1024 .f32) (s : FVec Ideal S1024 .f32) : IVec S16384 1 :=
  extremes (chosen (near d (least d)) s 0xFF800000#32) (chosen (near d (least d)) s 0x7F800000#32)

/-- The squared norms of the centres. -/
def centreNorms (C : FVec Ideal S1024x64 .f32) : FVec Ideal S1024 .f32 :=
  Host.reduceAdd (mulf C C) (constant S_ .f32 0x00000000#32) reducesTo_S1024x64_S1024_d1 h_S_

/-- The mask is `rows` of the squared distances. -/
theorem mask_eq (x : FVec Ideal S16384x64 .f32) (C : FVec Ideal S1024x64 .f32) :
    (Cert.On_settled.fn (F := Ideal) x C).1 = rows (Cert.ReferenceIdeal.RowValue.sqDist x C) (centreNorms C) := rfl

/-- The precondition `finite_settled` is `finite` and the mask of every row. -/
theorem pre_eq (x : FVec Ideal S16384x64 .f32) (C : FVec Ideal S1024x64 .f32) :
    Cert.Pre_finite_settled.fn (F := Ideal) x C
      = andi (Cert.Pre_finite.fn (F := Ideal) x C)
          (Host.reduce IntOp.andi (Cert.On_settled.fn (F := Ideal) x C).1 (constantI S_ 1 1#1)
            Cert.Pre_finite_settled.Gen.reducesTo_S16384_S_d0 h_S_) := rfl

/-- Under the precondition `finite_settled` so is `finite`, and the mask is set everywhere. -/
theorem finite_settled {x : FVec Ideal S16384x64 .f32} {C : FVec Ideal S1024x64 .f32}
    (h : Cert.Pre_finite_settled.fn (F := Ideal) x C = fun _ => 1#1) :
    Cert.Pre_finite.fn (F := Ideal) x C = (fun _ => 1#1) ∧ ∀ i, (Cert.On_settled.fn (F := Ideal) x C).1 i = 1#1 := by
  rw [pre_eq] at h
  have h0 := fun i => andi_one (congrFun h i)
  exact ⟨funext fun i => (h0 i).1, fun i => Host.reduce_andi_all _ _ _ _ (Shape.Idx.first h_S_) (h0 _).2 i⟩

/-- The least of a row as a fold. -/
theorem least_fold (d : FVec Ideal S16384x1024 .f32) (n : Fin 16384) :
    least d (ix1 n) = Finset.univ.fold min ⊤ fun k : Fin 1024 => d (ix2 n k) := by
  unfold least
  pointwise
  rw [ofBits_top]

/-- The greatest of a row as a fold. -/
theorem greatest_fold (d : FVec Ideal S16384x1024 .f32) (n : Fin 16384) :
    greatest d (ix1 n) = Finset.univ.fold max ⊥ fun k : Fin 1024 => d (ix2 n k) := by
  unfold greatest
  pointwise
  rw [ofBits_bot]

/-- The least of a row is the one that is attained and is below all. -/
theorem least_eq {d : FVec Ideal S16384x1024 .f32} {n : Fin 16384} {a : Fin 1024} (h : ∀ k, d (ix2 n a) ≤ d (ix2 n k)) :
    least d (ix1 n) = d (ix2 n a) := by
  rw [least_fold]
  exact fold_min_eq le_top a rfl h

/-- A nearest centre is chosen. -/
theorem near_eq {d : FVec Ideal S16384x1024 .f32} {t : FVec Ideal S16384 .f32} {n : Fin 16384} {k : Fin 1024}
    (h : d (ix2 n k) = t (ix1 n)) : near d t (ix2 n k) = 1#1 := by
  unfold near
  pointwise
  rw [h]
  show BitVec.ofBool (decide (t (ix1 n) = t (ix1 n))) = 1#1
  simp

/-- The squared norm of a chosen centre. -/
theorem chosen_eq {p : IVec S16384x1024 1} {s : FVec Ideal S1024 .f32} {b : BitVec 32} {n : Fin 16384} {k : Fin 1024}
    (h : p (ix2 n k) = 1#1) : chosen p s b (ix2 n k) = s (ix1 k) := by
  unfold chosen
  pointwise
  rw [h]
  rfl

/-- A test for equality at an index. -/
theorem equal_at {p q : FVec Ideal S16384 .f32} {i : S16384.Idx} (h : cmpf .oeq p q i = 1#1) : p i = q i := by
  have h' : BitVec.ofBool (decide (p i = q i)) = 1#1 := h
  by_contra hne
  simp [hne] at h'

/-- Where the extremes agree, an entry of the first array is at most one of the second. -/
theorem extremes_le {u v : FVec Ideal S16384x1024 .f32} {n : Fin 16384} (h : extremes u v (ix1 n) = 1#1) (i k : Fin 1024) :
    u (ix2 n i) ≤ v (ix2 n k) := by
  unfold extremes at h
  have e := equal_at h
  have hu : u (ix2 n i) ≤ greatest u (ix1 n) := by
    rw [greatest_fold, Finset.le_fold_max]
    exact Or.inr ⟨i, Finset.mem_univ _, le_rfl⟩
  have hv : least v (ix1 n) ≤ v (ix2 n k) := by
    rw [least_fold, Finset.fold_min_le]
    exact Or.inr ⟨k, Finset.mem_univ _, le_rfl⟩
  exact hu.trans (e ▸ hv)

/-- Of a settled row all nearest centres have one norm. -/
theorem norm_eq {d : FVec Ideal S16384x1024 .f32} {s : FVec Ideal S1024 .f32} {n : Fin 16384} {a k : Fin 1024}
    (h : rows d s (ix1 n) = 1#1) (ha : ∀ k, d (ix2 n a) ≤ d (ix2 n k)) (hk : d (ix2 n k) = d (ix2 n a)) :
    s (ix1 k) = s (ix1 a) := by
  have hl := least_eq ha
  have na := near_eq hl.symm
  have nk := near_eq (hk.trans hl.symm)
  have h1 := extremes_le h a k
  have h2 := extremes_le h k a
  rw [chosen_eq na, chosen_eq nk] at h1 h2
  exact le_antisymm h2 h1

/-- The squared norm of a centre. -/
theorem centreNorms_eq {C : FVec Ideal S1024x64 .f32} {k : Fin 1024 → Fin 64 → ℝ}
    (hC : ∀ i j, C (ix2 i j) = ((k i j : ℝ) : EReal)) (i : Fin 1024) :
    centreNorms C (ix1 i) = ((normSq (k i) : ℝ) : EReal) := by
  unfold centreNorms
  pointwise
  simp only [hC]
  rw [coe_dot, normSq]

/-- Where the mask of the first result is set, the nearest centres of the row have one norm. -/
theorem norm_of_mask {x : FVec Ideal S16384x64 .f32} {C : FVec Ideal S1024x64 .f32} {z : Fin 16384 → Fin 64 → ℝ}
    {k : Fin 1024 → Fin 64 → ℝ} {n : Fin 16384} {a : Fin 1024}
    (hx : ∀ n j, x (ix2 n j) = ((z n j : ℝ) : EReal)) (hC : ∀ i j, C (ix2 i j) = ((k i j : ℝ) : EReal))
    (ha : FirstMin (fun i => score (z n) (k i)) a) (h : (Cert.On_settled.fn (F := Ideal) x C).1 (ix1 n) = 1#1) (i : Fin 1024)
    (hi : score (z n) (k i) = score (z n) (k a)) : normSq (k i) = normSq (k a) := by
  have hd := Cert.ReferenceIdeal.RowValue.sqDist_eq hx hC n
  rw [mask_eq] at h
  have := norm_eq (a := a) (k := i) h
    (fun k' => by rw [hd, hd]; exact EReal.coe_le_coe (add_le_add_left (ha.1 k') _)) (by rw [hd, hd, hi])
  rw [centreNorms_eq hC, centreNorms_eq hC] at this
  exact EReal.coe_eq_coe_iff.1 this

end Cert.Settled

end
-- ==== Proof.Agree.lean ====
/- The two results of the two programs agree, row by row. -/
module

public import proofs.«01_k».proof.Proof.KernelRun
public import proofs.«01_k».proof.Proof.Settled

@[expose] public section

noncomputable section

open Idealize.ShloMosaic Idealize.ShloMosaic.TcCoe Idealize.SL.Sem

namespace Cert.Agree

open Cert.Nearest

variable {m : (ℓ : Loc Cert.KernelIdeal.nD Cert.KernelIdeal.τ Cert.KernelIdeal.sig) → Buf (Elt Ideal) ℓ}
variable {m' : (ℓ : Loc Cert.ReferenceIdeal.nD Cert.ReferenceIdeal.τ Cert.ReferenceIdeal.sig) → Buf (Elt Ideal) ℓ}
variable {c : Dev Cert.KernelIdeal.nD}

/-- The arguments hold the same numbers, at one device. -/
def SameArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)

/-- The precondition `finite` at one device. -/
def FiniteArgs (m : (ℓ : Loc Cert.KernelIdeal.nD Cert.KernelIdeal.τ Cert.KernelIdeal.sig) → Buf (Elt Ideal) ℓ)
    (c : Dev Cert.KernelIdeal.nD) : Prop :=
  Cert.Pre_finite.fn (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) = fun _ => 1#1

/-- The mask of the first result at one device. -/
def mask (m : (ℓ : Loc Cert.KernelIdeal.nD Cert.KernelIdeal.τ Cert.KernelIdeal.sig) → Buf (Elt Ideal) ℓ)
    (c : Dev Cert.KernelIdeal.nD) : IVec ⟨1, ![16384]⟩ 1 :=
  (Cert.On_settled.fn (F := Ideal) (m ((c.tc : Thread Cert.KernelIdeal.nD Cert.KernelIdeal.τ).loc Cert.KernelIdeal.main_arg0))
    (m ((c.tc : Thread Cert.KernelIdeal.nD Cert.KernelIdeal.τ).loc Cert.KernelIdeal.main_arg1))).1

/-- An index of a vector is its one coordinate. -/
theorem vec_eq (i : (⟨1, ![16384]⟩ : Shape).Idx) : i = ix1 (i 0 : Fin 16384) := by
  funext b
  match b with
  | ⟨0, _⟩ => rfl

/-- The assignments agree on real arguments. -/
theorem assign (hf : FiniteArgs m c) (hs : SameArgs m m' c) (i : (⟨1, ![16384]⟩ : Shape).Idx) :
    Cert.ReferenceIdeal.RowValue.assigned m' c i = Cert.KernelIdeal.RowValue.assignRow m c (i 0) := by
  obtain ⟨hx, hC⟩ := Cert.Settled.finite_real hf
  choose z hz using hx
  choose k hk using hC
  obtain ⟨a, ha⟩ := exists_firstMin fun l => score (fun j => z (ix2 (i 0) j)) (fun j => k (ix2 l j))
  rw [Cert.KernelIdeal.RowValue.assignRow_eq (z := fun n j => z (ix2 n j)) (k := fun l j => k (ix2 l j))
    (fun n j => hz _) (fun l j => hk _) ha]
  refine (congrArg _ (vec_eq i)).trans ?_
  exact Cert.ReferenceIdeal.RowValue.assigned_eq (z := fun n j => z (ix2 n j)) (k := fun l j => k (ix2 l j))
    (fun n j => by rw [hs.1]; exact hz _) (fun l j => by rw [hs.2]; exact hk _) ha

/-- The distances agree on real arguments where the mask is set. -/
theorem dist (hf : FiniteArgs m c) (hs : SameArgs m m' c) (i : (⟨1, ![16384]⟩ : Shape).Idx) (hi : mask m c i = 1#1) :
    Cert.ReferenceIdeal.RowValue.distances m' c i = Cert.KernelIdeal.RowValue.distRow m c (i 0) := by
  obtain ⟨hx, hC⟩ := Cert.Settled.finite_real hf
  choose z hz using hx
  choose k hk using hC
  obtain ⟨a, ha⟩ := exists_firstMin fun l => score (fun j => z (ix2 (i 0) j)) (fun j => k (ix2 l j))
  rw [vec_eq i] at hi
  rw [Cert.KernelIdeal.RowValue.distRow_eq (z := fun n j => z (ix2 n j)) (k := fun l j => k (ix2 l j))
    (fun n j => hz _) (fun l j => hk _) ha
    (Cert.Settled.norm_of_mask (z := fun n j => z (ix2 n j)) (k := fun l j => k (ix2 l j))
      (fun n j => hz _) (fun l j => hk _) ha hi)]
  refine (congrArg _ (vec_eq i)).trans ?_
  exact Cert.ReferenceIdeal.RowValue.distances_eq (z := fun n j => z (ix2 n j)) (k := fun l j => k (ix2 l j))
    (fun n j => by rw [hs.1]; exact hz _) (fun l j => by rw [hs.2]; exact hk _) ha

end Cert.Agree

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite_settled
public import proofs.«01_k».proof.Proof.Gen.On_settled
public import proofs.«01_k».proof.Proof.Agree
public import Idealize.ShloMosaic.Adequacy
public import Idealize.ShloMosaic.Init

@[expose] public section

noncomputable section

namespace Cert.Proof

open Idealize.ShloMosaic Idealize.SL.Sem

/-- The results agree where the mask is set: every assignment, and the distance of each settled row. -/
theorem on_settled : Cert.algebraic_KernelIdeal_ReferenceIdeal_on_settled_pre_finite := by
  intro m g m' g' hpre hargs
  refine ⟨fun c i => Cert.KernelIdeal.RowValue.distRow m c (i 0), fun c i => Cert.KernelIdeal.RowValue.assignRow m c (i 0),
    θ_run_mono (Cert.KernelIdeal.RowValue.run m g) fun r h c => ?_,
    θ_run_mono (Cert.ReferenceIdeal.RowValue.run m' g') fun r h c => ?_⟩
  · exact ⟨fun i _ => congrFun (h c).1 i, fun i _ => congrFun (h c).2.1 i, (h c).2.2⟩
  · exact ⟨fun i hi => (congrFun (h c).1 i).trans (Cert.Agree.dist (hpre c) (hargs c) i hi),
      fun i _ => (congrFun (h c).2.1 i).trans (Cert.Agree.assign (hpre c) (hargs c) i), (h c).2.2⟩

/-- Where every row is settled, both results agree whole. -/
theorem all_settled : Cert.algebraic_KernelIdeal_ReferenceIdeal_pre_finite_settled := by
  intro m g m' g' hpre hargs
  refine ⟨fun c i => Cert.KernelIdeal.RowValue.distRow m c (i 0), fun c i => Cert.KernelIdeal.RowValue.assignRow m c (i 0),
    θ_run_mono (Cert.KernelIdeal.RowValue.run m g) fun r h c => h c,
    θ_run_mono (Cert.ReferenceIdeal.RowValue.run m' g') fun r h c => ?_⟩
  have hp := Cert.Settled.finite_settled (hpre c)
  exact ⟨(h c).1.trans (funext fun i => Cert.Agree.dist hp.1 (hargs c) i (hp.2 i)),
    (h c).2.1.trans (funext fun i => Cert.Agree.assign hp.1 (hargs c) i), (h c).2.2⟩

/-- All the claims. -/
theorem claim : Cert.Claim :=
  ⟨Cert.Kernel.Gen.facts, Cert.KernelIdeal.Gen.facts, Cert.ReferenceIdeal.Gen.facts, Cert.Pre_finite.Gen.facts,
    Cert.Pre_finite_settled.Gen.facts, Cert.On_settled.Gen.facts,
    fun m g _ => Cert.Kernel.Gen.frame m g,
    fun m g _ => Cert.KernelIdeal.Gen.frame m g,
    fun m g _ => Cert.KernelIdeal.Gen.frame m g,
    fun m g _ => Cert.KernelIdeal.Gen.frame m g,
    fun m g _ => Cert.ReferenceIdeal.RowValue.frame m g,
    fun m g _ => Cert.ReferenceIdeal.RowValue.frame m g,
    fun m g _ => Cert.ReferenceIdeal.RowValue.frame m g,
    IdealRules.named_const.statement _ "eps_sq" .f32 _ _ rfl,
    on_settled, all_settled⟩

end Cert.Proof

end
